-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x5x128x128x128 : Shape := ⟨5, ![2, 5, 128, 128, 128]⟩
abbrev S2x128x128x128 : Shape := ⟨4, ![2, 128, 128, 128]⟩
abbrev S_ : Shape := ⟨0, ![]⟩

class Facts : Prop where
  bcast_S_S2x128x128x128 : S_.BroadcastsInDim S2x128x128x128 (![] : Fin 0 → Fin S2x128x128x128.rank)
  reducesTo_S2x128x128x128_S_d0_1_2_3 : S2x128x128x128.ReducesTo [0, 1, 2, 3] S_
  h_S_ : 0 < S_.numel

variable [Facts]

def fn {F : FTy → Type} [FloatOps F] (main_arg0 : FVec F S2x5x128x128x128 .f32) (main_arg1 : IVec S2x128x128x128 32) : IVec S_ 1 :=
  let main_c : IVec S_ 32 := constantI S_ 32 0#32
  let main_v0 : IVec S2x128x128x128 32 := broadcastInDim S2x128x128x128 ![] bcast_S_S2x128x128x128 main_c
  let main_v1 : IVec S2x128x128x128 1 := cmpi .sge main_arg1 main_v0
  let main_c_0 : IVec S_ 32 := constantI S_ 32 5#32
  let main_v2 : IVec S2x128x128x128 32 := broadcastInDim S2x128x128x128 ![] bcast_S_S2x128x128x128 main_c_0
  let main_v3 : IVec S2x128x128x128 1 := cmpi .slt main_arg1 main_v2
  let main_v4 : IVec S2x128x128x128 1 := andi main_v1 main_v3
  let main_c_1 : IVec S_ 1 := constantI S_ 1 1#1
  let main_v5 : IVec S_ 1 := (fun x v => Host.reduce IntOp.andi x v reducesTo_S2x128x128x128_S_d0_1_2_3 h_S_) main_v4 main_c_1
  main_v5
-- ==== Kernel.lean ====
abbrev S2x5x128x128x128 : Shape := ⟨5, ![2, 5, 128, 128, 128]⟩
abbrev S2x128x128x128 : Shape := ⟨4, ![2, 128, 128, 128]⟩
abbrev S20971520 : Shape := ⟨1, ![20971520]⟩
abbrev S4194304 : Shape := ⟨1, ![4194304]⟩
abbrev S12800 : Shape := ⟨1, ![12800]⟩
abbrev S40960 : Shape := ⟨1, ![40960]⟩
abbrev S8192 : Shape := ⟨1, ![8192]⟩
abbrev S400 : Shape := ⟨1, ![400]⟩
abbrev S16 : Shape := ⟨1, ![16]⟩
abbrev S_ : Shape := ⟨0, ![]⟩
abbrev S32x400 : Shape := ⟨2, ![32, 400]⟩
abbrev S1x128 : Shape := ⟨2, ![1, 128]⟩
abbrev S1x32x400 : Shape := ⟨3, ![1, 32, 400]⟩
abbrev S1 : Shape := ⟨1, ![1]⟩
abbrev S1x1x1 : Shape := ⟨3, ![1, 1, 1]⟩
abbrev S1x5 : Shape := ⟨2, ![1, 5]⟩
abbrev S5 : Shape := ⟨1, ![5]⟩

abbrev nBuf : Table → Nat
  | .hbm => 9
  | .local .tc .vmem => 2
  | .local .scVector .vmem => 3
  | _ => 0

abbrev bufTy : (tb : Table) → Fin (nBuf tb) → BufTy
  | .hbm, ⟨0, _⟩ => ⟨S2x5x128x128x128, .f32⟩
  | .hbm, ⟨1, _⟩ => ⟨S2x128x128x128, .i32⟩
  | .hbm, ⟨2, _⟩ => ⟨S20971520, .f32⟩
  | .hbm, ⟨3, _⟩ => ⟨S4194304, .i32⟩
  | .hbm, ⟨4, _⟩ => ⟨S12800, .f32⟩
  | .hbm, ⟨5, _⟩ => ⟨S32x400, .f32⟩
  | .hbm, ⟨6, _⟩ => ⟨S1x128, .f32⟩
  | .hbm, ⟨7, _⟩ => ⟨S1x5, .f32⟩
  | .hbm, ⟨8, _⟩ => ⟨S5, .f32⟩
  | .local .tc .vmem, ⟨0, _⟩ => ⟨S32x400, .f32⟩
  | .local .tc .vmem, ⟨1, _⟩ => ⟨S1x128, .f32⟩
  | .local .scVector .vmem, ⟨0, _⟩ => ⟨S40960, .f32⟩
  | .local .scVector .vmem, ⟨1, _⟩ => ⟨S8192, .i32⟩
  | .local .scVector .vmem, ⟨2, _⟩ => ⟨S400, .f32⟩
  | _, _ => ⟨S2x5x128x128x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 7
abbrev cc1_sem1_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_12 : BitVec 32 := 0#32
  let c16_i32_13 : BitVec 32 := 16#32
  let v58 : BitVec 32 := Scalar.addi c0_i32_12 c16_i32_13
  let c1_i32_14 : BitVec 32 := 1#32
  ⟨c0_i32_12, v58, c1_i32_14⟩
def k0_off1 (i : grid0.Coords) (k0_t1 : Fin k0_t1_loop.trips) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v31 : BitVec 1 := Scalar.cmpi .sgt v1 c0_i32
  let v32 : BitVec 32 := Scalar.extui v31
  let c0_i32_1 : BitVec 32 := 0#32
  let v33 : BitVec 1 := Scalar.cmpi .slt v1 c0_i32_1
  let v34 : BitVec 32 := Scalar.extui v33
  let v35 : BitVec 32 := Scalar.subi v32 v34
  let c16_i32 : BitVec 32 := 16#32
  let c0_i32_2 : BitVec 32 := 0#32
  let v36 : BitVec 1 := Scalar.cmpi .sgt c16_i32 c0_i32_2
  let v37 : BitVec 32 := Scalar.extui v36
  let c0_i32_3 : BitVec 32 := 0#32
  let v38 : BitVec 1 := Scalar.cmpi .slt c16_i32 c0_i32_3
  let v39 : BitVec 32 := Scalar.extui v38
  let v40 : BitVec 32 := Scalar.subi v37 v39
  let v41 : BitVec 1 := Scalar.cmpi .ne v35 v40
  let v42 : BitVec 32 := Scalar.remsi v1 c16_i32
  let c0_i32_4 : BitVec 32 := 0#32
  let v43 : BitVec 1 := Scalar.cmpi .ne v42 c0_i32_4
  let v44 : BitVec 1 := Scalar.andi v41 v43
  let v30 : BitVec 32 := Scalar.divsi v1 c16_i32
  let c1_i32 : BitVec 32 := 1#32
  let v45 : BitVec 32 := Scalar.subi v30 c1_i32
  let v46 : BitVec 32 := Scalar.select v44 v45 v30
  let c5_i32 : BitVec 32 := 5#32
  let v63 : BitVec 32 := Scalar.muli v46 c5_i32
  let v64 : BitVec 32 := Scalar.addi v63 c0_i32_16
  let c2097152_i32 : BitVec 32 := 2097152#32
  let v65 : BitVec 32 := Scalar.muli v64 c2097152_i32
  let c16_i32_5 : BitVec 32 := 16#32
  let c0_i32_6 : BitVec 32 := 0#32
  let v47 : BitVec 1 := Scalar.cmpi .eq c16_i32_5 c0_i32_6
  let c1_i32_7 : BitVec 32 := 1#32
  let v48 : BitVec 32 := Scalar.select v47 c1_i32_7 c16_i32_5
  let v49 : BitVec 32 := Scalar.remsi v1 v48
  let c0_i32_9 : BitVec 32 := 0#32
  let v51 : BitVec 1 := Scalar.cmpi .slt v49 c0_i32_9
  let c0_i32_10 : BitVec 32 := 0#32
  let v52 : BitVec 1 := Scalar.cmpi .slt v48 c0_i32_10
  let v53 : BitVec 1 := Scalar.xori v51 v52
  let c0_i32_8 : BitVec 32 := 0#32
  let v50 : BitVec 1 := Scalar.cmpi .ne v49 c0_i32_8
  let v54 : BitVec 1 := Scalar.andi v53 v50
  let v55 : BitVec 32 := Scalar.addi v49 v48
  let v56 : BitVec 32 := Scalar.select v54 v55 v49
  let c131072_i32 : BitVec 32 := 131072#32
  let v57 : BitVec 32 := Scalar.muli v56 c131072_i32
  let c0_i32_12 : BitVec 32 := 0#32
  let c1_i32_14 : BitVec 32 := 1#32
  let arg8 : BitVec 32 := Scf.iv c0_i32_12 c1_i32_14 k0_t1
  let c8192_i32 : BitVec 32 := 8192#32
  let v61 : BitVec 32 := Scalar.muli arg8 c8192_i32
  let v62 : BitVec 32 := Scalar.addi v57 v61
  let v66 : BitVec 32 := Scalar.addi v65 v62
  ![v66.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v31 : BitVec 1 := Scalar.cmpi .sgt v1 c0_i32
  let v32 : BitVec 32 := Scalar.extui v31
  let c0_i32_1 : BitVec 32 := 0#32
  let v33 : BitVec 1 := Scalar.cmpi .slt v1 c0_i32_1
  let v34 : BitVec 32 := Scalar.extui v33
  let v35 : BitVec 32 := Scalar.subi v32 v34
  let c16_i32 : BitVec 32 := 16#32
  let c0_i32_2 : BitVec 32 := 0#32
  let v36 : BitVec 1 := Scalar.cmpi .sgt c16_i32 c0_i32_2
  let v37 : BitVec 32 := Scalar.extui v36
  let c0_i32_3 : BitVec 32 := 0#32
  let v38 : BitVec 1 := Scalar.cmpi .slt c16_i32 c0_i32_3
  let v39 : BitVec 32 := Scalar.extui v38
  let v40 : BitVec 32 := Scalar.subi v37 v39
  let v41 : BitVec 1 := Scalar.cmpi .ne v35 v40
  let v42 : BitVec 32 := Scalar.remsi v1 c16_i32
  let c0_i32_4 : BitVec 32 := 0#32
  let v43 : BitVec 1 := Scalar.cmpi .ne v42 c0_i32_4
  let v44 : BitVec 1 := Scalar.andi v41 v43
  let v30 : BitVec 32 := Scalar.divsi v1 c16_i32
  let c1_i32 : BitVec 32 := 1#32
  let v45 : BitVec 32 := Scalar.subi v30 c1_i32
  let v46 : BitVec 32 := Scalar.select v44 v45 v30
  let c2097152_i32_27 : BitVec 32 := 2097152#32
  let v83 : BitVec 32 := Scalar.muli v46 c2097152_i32_27
  let c16_i32_5 : BitVec 32 := 16#32
  let c0_i32_6 : BitVec 32 := 0#32
  let v47 : BitVec 1 := Scalar.cmpi .eq c16_i32_5 c0_i32_6
  let c1_i32_7 : BitVec 32 := 1#32
  let v48 : BitVec 32 := Scalar.select v47 c1_i32_7 c16_i32_5
  let v49 : BitVec 32 := Scalar.remsi v1 v48
  let c0_i32_9 : BitVec 32 := 0#32
  let v51 : BitVec 1 := Scalar.cmpi .slt v49 c0_i32_9
  let c0_i32_10 : BitVec 32 := 0#32
  let v52 : BitVec 1 := Scalar.cmpi .slt v48 c0_i32_10
  let v53 : BitVec 1 := Scalar.xori v51 v52
  let c0_i32_8 : BitVec 32 := 0#32
  let v50 : BitVec 1 := Scalar.cmpi .ne v49 c0_i32_8
  let v54 : BitVec 1 := Scalar.andi v53 v50
  let v55 : BitVec 32 := Scalar.addi v49 v48
  let v56 : BitVec 32 := Scalar.select v54 v55 v49
  let c131072_i32 : BitVec 32 := 131072#32
  let v57 : BitVec 32 := Scalar.muli v56 c131072_i32
  let c0_i32_12 : BitVec 32 := 0#32
  let c1_i32_14 : BitVec 32 := 1#32
  let arg8 : BitVec 32 := Scf.iv c0_i32_12 c1_i32_14 k0_t1
  let c8192_i32 : BitVec 32 := 8192#32
  let v61 : BitVec 32 := Scalar.muli arg8 c8192_i32
  let v62 : BitVec 32 := Scalar.addi v57 v61
  let v84 : BitVec 32 := Scalar.addi v83 v62
  ![v84.toNat]
@[reducible] def k0_t2_loop : Scf.Loop 32 :=
  let c0_i32_29 : BitVec 32 := 0#32
  let c512_i32 : BitVec 32 := 512#32
  let v85 : BitVec 32 := Scalar.addi c0_i32_29 c512_i32
  let c1_i32_30 : BitVec 32 := 1#32
  ⟨c0_i32_29, v85, c1_i32_30⟩
def k0_off3 (k0_t2 : Fin k0_t2_loop.trips) : Fin 1 → Nat :=
  let c0_i32_29 : BitVec 32 := 0#32
  let c1_i32_30 : BitVec 32 := 1#32
  let arg10 : BitVec 32 := Scf.iv c0_i32_29 c1_i32_30 k0_t2
  let c16_i32_33 : BitVec 32 := 16#32
  let v87 : BitVec 32 := Scalar.muli arg10 c16_i32_33
  let v88 : Index := Scalar.indexCast v87
  ![v88.toNat]
def k0_off4 (k0_t2 : Fin k0_t2_loop.trips) : Fin 1 → Nat :=
  let c0_i32_29 : BitVec 32 := 0#32
  let c1_i32_30 : BitVec 32 := 1#32
  let arg10 : BitVec 32 := Scf.iv c0_i32_29 c1_i32_30 k0_t2
  let c16_i32_33 : BitVec 32 := 16#32
  let v87 : BitVec 32 := Scalar.muli arg10 c16_i32_33
  let v90 : Index := Scalar.indexCast v87
  ![v90.toNat]
def k0_off5 (k0_t2 : Fin k0_t2_loop.trips) (c8192_i32_35 : BitVec 32) : Fin 1 → Nat :=
  let c0_i32_29 : BitVec 32 := 0#32
  let c1_i32_30 : BitVec 32 := 1#32
  let arg10 : BitVec 32 := Scf.iv c0_i32_29 c1_i32_30 k0_t2
  let c16_i32_33 : BitVec 32 := 16#32
  let v87 : BitVec 32 := Scalar.muli arg10 c16_i32_33
  let v93 : BitVec 32 := Scalar.addi c8192_i32_35 v87
  let v94 : Index := Scalar.indexCast v93
  ![v94.toNat]

def k0_chk1 (v126 : IVec S16 32) : Prop :=
  (∀ a x, ((![v126] : Fin 1 → IVec S16 32) a x).toNat < S400.size a)
theorem k0_idx1_inb : ∀ (v126 : IVec S16 32) (k0_hw1 : k0_chk1 v126), ∀ a x, ((![v126] : Fin 1 → IVec S16 32) a x).toNat < S400.size a := fun v126 k0_hw1 => k0_hw1
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v60 : BitVec 32 := Scalar.muli v1 c400_i32
  ![v60.toNat]
abbrev grid1 : Pipeline.Grid := .none

abbrev stage1_0 : Fin 1 → Memref sig .tc .vmem S32x400 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x5x128x128x128 : Shape := ⟨5, ![2, 5, 128, 128, 128]⟩
abbrev S2x128x128x128 : Shape := ⟨4, ![2, 128, 128, 128]⟩
abbrev S_ : Shape := ⟨0, ![]⟩
abbrev S4194304 : Shape := ⟨1, ![4194304]⟩
abbrev S25 : Shape := ⟨1, ![25]⟩
abbrev S4194304x1 : Shape := ⟨2, ![4194304, 1]⟩
abbrev S5x5 : Shape := ⟨2, ![5, 5]⟩
abbrev S5 : Shape := ⟨1, ![5]⟩
abbrev S5x1 : Shape := ⟨2, ![5, 1]⟩
abbrev S1x5 : Shape := ⟨2, ![1, 5]⟩

abbrev nBuf : Space → Nat
  | .hbm => 62
  | .vmem => 0
  | .smem => 0
  | _ => 0

abbrev bufTy : (tb : Table) → Fin (tcTables nBuf tb) → BufTy
  | .hbm, ⟨0, _⟩ => ⟨S2x5x128x128x128, .f32⟩
  | .hbm, ⟨1, _⟩ => ⟨S2x128x128x128, .i32⟩
  | .hbm, ⟨2, _⟩ => ⟨S2x5x128x128x128, .i32⟩
  | .hbm, ⟨3, _⟩ => ⟨S_, .f32⟩
  | .hbm, ⟨4, _⟩ => ⟨S_, .i32⟩
  | .hbm, ⟨5, _⟩ => ⟨S2x128x128x128, .f32⟩
  | .hbm, ⟨6, _⟩ => ⟨S2x128x128x128, .i32⟩
  | .hbm, ⟨7, _⟩ => ⟨S_, .i32⟩
  | .hbm, ⟨8, _⟩ => ⟨S2x128x128x128, .i32⟩
  | .hbm, ⟨9, _⟩ => ⟨S2x128x128x128, .i1⟩
  | .hbm, ⟨10, _⟩ => ⟨S_, .i32⟩
  | .hbm, ⟨11, _⟩ => ⟨S2x128x128x128, .i32⟩
  | .hbm, ⟨12, _⟩ => ⟨S2x128x128x128, .i1⟩
  | .hbm, ⟨13, _⟩ => ⟨S2x128x128x128, .i1⟩
  | .hbm, ⟨14, _⟩ => ⟨S_, .i32⟩
  | .hbm, ⟨15, _⟩ => ⟨S2x128x128x128, .i32⟩
  | .hbm, ⟨16, _⟩ => ⟨S2x128x128x128, .i32⟩
  | .hbm, ⟨17, _⟩ => ⟨S2x128x128x128, .i32⟩
  | .hbm, ⟨18, _⟩ => ⟨S_, .i32⟩
  | .hbm, ⟨19, _⟩ => ⟨S_, .i32⟩
  | .hbm, ⟨20, _⟩ => ⟨S2x128x128x128, .i32⟩
  | .hbm, ⟨21, _⟩ => ⟨S2x128x128x128, .i32⟩
  | .hbm, ⟨22, _⟩ => ⟨S4194304, .i32⟩
  | .hbm, ⟨23, _⟩ => ⟨S4194304, .i1⟩
  | .hbm, ⟨24, _⟩ => ⟨S4194304, .f32⟩
  | .hbm, ⟨25, _⟩ => ⟨S_, .f32⟩
  | .hbm, ⟨26, _⟩ => ⟨S25, .f32⟩
  | .hbm, ⟨27, _⟩ => ⟨S_, .i32⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S_, .i32⟩
  | .hbm, ⟨32, _⟩ => ⟨S4194304, .i32⟩
  | .hbm, ⟨33, _⟩ => ⟨S4194304, .i1⟩
  | .hbm, ⟨34, _⟩ => ⟨S_, .i32⟩
  | .hbm, ⟨35, _⟩ => ⟨S4194304, .i32⟩
  | .hbm, ⟨36, _⟩ => ⟨S4194304, .i32⟩
  | .hbm, ⟨37, _⟩ => ⟨S4194304, .i32⟩
  | .hbm, ⟨38, _⟩ => ⟨S4194304x1, .i32⟩
  | .hbm, ⟨39, _⟩ => ⟨S25, .f32⟩
  | .hbm, ⟨40, _⟩ => ⟨S5x5, .f32⟩
  | .hbm, ⟨41, _⟩ => ⟨S5, .i32⟩
  | .hbm, ⟨42, _⟩ => ⟨S5x1, .i32⟩
  | .hbm, ⟨43, _⟩ => ⟨S1x5, .i32⟩
  | .hbm, ⟨44, _⟩ => ⟨S5x5, .i32⟩
  | .hbm, ⟨45, _⟩ => ⟨S5x5, .i32⟩
  | .hbm, ⟨46, _⟩ => ⟨S5x5, .i1⟩
  | .hbm, ⟨47, _⟩ => ⟨S_, .f32⟩
  | .hbm, ⟨48, _⟩ => ⟨S_, .f32⟩
  | .hbm, ⟨49, _⟩ => ⟨S5x5, .f32⟩
  | .hbm, ⟨50, _⟩ => ⟨S5x5, .f32⟩
  | .hbm, ⟨51, _⟩ => ⟨S_, .f32⟩
  | .hbm, ⟨52, _⟩ => ⟨S5, .f32⟩
  | .hbm, ⟨53, _⟩ => ⟨S_, .f32⟩
  | .hbm, ⟨54, _⟩ => ⟨S5, .f32⟩
  | .hbm, ⟨55, _⟩ => ⟨S5, .f32⟩
  | .hbm, ⟨56, _⟩ => ⟨S_, .f32⟩
  | .hbm, ⟨57, _⟩ => ⟨S5, .f32⟩
  | .hbm, ⟨58, _⟩ => ⟨S_, .f32⟩
  | .hbm, ⟨59, _⟩ => ⟨S5, .f32⟩
  | .hbm, ⟨60, _⟩ => ⟨S5, .f32⟩
  | .hbm, ⟨61, _⟩ => ⟨S5, .f32⟩
  | _, _ => ⟨S2x5x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Proof.Labels.lean ====
/-
  What the precondition says of the target's words: each is a label below five.
-/
module

public import proofs.«01_k».proof.Defs
public import Idealize.ShloMosaic.Lib.ReduceAll

@[expose] public section

namespace Cert.Proof

open Idealize.ShloMosaic

/-- A word that is at least zero and less than five, both read signed, is a number below five. -/
theorem label_word (v : BitVec 32) (e : IntOp.andi (IntOp.cmpi .sge v 0#32) (IntOp.cmpi .slt v 5#32) = 1#1) : v.toNat < 5 := by
  have both (p q : Bool) : IntOp.andi (BitVec.ofBool p) (BitVec.ofBool q) = BitVec.ofBool (p && q) := by
    cases p <;> cases q <;> decide
  have holds (p : Bool) : (BitVec.ofBool p = 1#1) ↔ p = true := by cases p <;> decide
  simp only [IntOp.cmpi, both, holds, Bool.and_eq_true, BitVec.sle_eq_decide, BitVec.slt_eq_decide,
    decide_eq_true_eq, BitVec.toInt_eq_toNat_cond, BitVec.toNat_ofNat, Nat.reducePow, Nat.reduceMod] at e
  omega

/-- The precondition, all ones: every word of the target is a label below five. -/
theorem labels_of_pre [Cert.Pre_in_range.Facts] {F : FTy → Type} [FloatOps F]
    (x : FVec F Cert.Pre_in_range.S2x5x128x128x128 .f32) (t : IVec Cert.Pre_in_range.S2x128x128x128 32)
    (h : Cert.Pre_in_range.fn x t = fun _ => 1#1) (i : Cert.Pre_in_range.S2x128x128x128.Idx) : (t i).toNat < 5 := by
  have : Subsingleton Cert.Pre_in_range.S_.Idx := ⟨fun a b => funext fun k => k.elim0⟩
  have e := Host.reduce_andi_all _ _ _ _ (fun k => k.elim0) (congrFun h _) i
  simp only [andi, cmpi, broadcastInDim, constantI] at e
  exact label_word _ e

end Cert.Proof

end
-- ==== Proof.Ideal.Offsets.lean ====
/-
  The offsets of a tile's copies in closed form. Tile `wid = 2·s + c` (SparseCore `c`, vector subcore `s`) works on the
  voxels `[131072·wid, +131072)` of the flattened target; the five class planes of those voxels lie 2097152 words apart
  in the flattened prediction.
-/
module

public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

/-- The number of tile `i`, as the kernel numbers the 32 tiles. -/
def wid (i : grid0.Coords) : ℕ := 2 * (i 1).val + (i 0).val

/-- There are 32 tiles. -/
theorem wid_lt (i : grid0.Coords) : wid i < 32 := by
  have h0 : (i 0).val < 2 := (i 0).isLt
  have h1 : (i 1).val < 16 := (i 1).isLt
  unfold wid; omega

/-- Where the prediction's class plane `r` of chunk `k` starts. -/
theorem off1_eq : ∀ (i : grid0.Coords) (k : Fin k0_t1_loop.trips) (r : Fin 5),
    k0_off1 i k (BitVec.ofNat 32 r.val)
      = ![(wid i / 16 * 5 + r.val) * 2097152 + wid i % 16 * 131072 + 8192 * k.val] := by
  decide +kernel

/-- Where the target's chunk `k` starts. -/
theorem off2_eq : ∀ (i : grid0.Coords) (k : Fin k0_t1_loop.trips),
    k0_off2 i k = ![wid i * 131072 + 8192 * k.val] := by
  decide +kernel

/-- Where the tile's 400 counts go. -/
theorem off6_eq : ∀ i : grid0.Coords, k0_off6 i = ![400 * wid i] := by
  decide +kernel

end Cert.Proof.KernelIdeal

end
-- ==== Proof.Ideal.Values.lean ====
/-
  What one tile of the kernel computes, as pure functions of the flattened prediction and target: the sixteen lanes a
  step reads, the indices it scatters ones to, and the tile's 400 counters after `n` steps.
-/
module

public import proofs.«01_k».proof.Proof.Ideal.Offsets

@[expose] public section

noncomputable section

namespace Cert.Proof.KernelIdeal

open Cert.KernelIdeal Cert.KernelIdeal.Gen
open Idealize.ShloMosaic

variable {F : FTy → Type} [FloatOps F]

/-- The index of word `x` of a one-axis array (reduced modulo the extent, so that it is total). -/
def ix (s : Shape) (h : ∀ a, 0 < s.size a) (x : ℕ) : s.Idx := fun a => ⟨x % s.size a, Nat.mod_lt _ (h a)⟩

/-- The index of word `x` of the flattened prediction. -/
abbrev ixP (x : ℕ) : S20971520.Idx := ix S20971520 (by decide) x
/-- The index of word `x` of the flattened target. -/
abbrev ixT (x : ℕ) : S4194304.Idx := ix S4194304 (by decide) x

/-- Where class plane `c` of tile `w`'s voxels starts in the flattened prediction. -/
def pBase (w c : ℕ) : ℕ := (w / 16 * 5 + c) * 2097152 + w % 16 * 131072

/-- The scratch buffer for the prediction once chunk `k` has landed: the five class planes of its 8192 voxels. -/
def pChunk (mp : Vec F S20971520 .f32) (w k : ℕ) : Vec F S40960 .f32 :=
  fun j => mp (ixP (pBase w ((j 0).val / 8192) + 8192 * k + (j 0).val % 8192))

/-- The scratch buffer for the target once chunk `k` has landed. -/
def tChunk (mt : Vec F S4194304 .i32) (w k : ℕ) : Vec F S8192 .i32 :=
  fun j => mt (ixT (w * 131072 + 8192 * k + (j 0).val))

/-- The sixteen scores of class `c` that step `n` of tile `w` reads. -/
def pLane (mp : Vec F S20971520 .f32) (w c n : ℕ) : Vec F S16 .f32 :=
  fun l => mp (ixP (pBase w c + 16 * n + (l 0).val))

/-- The sixteen target labels that step `n` of tile `w` reads. -/
def tLane (mt : Vec F S4194304 .i32) (w n : ℕ) : Vec F S16 .i32 :=
  fun l => mt (ixT (w * 131072 + 16 * n + (l 0).val))

/-- The lane numbers 0 to 15. -/
def laneIota : IVec S16 32 := iota .scVector S16 32 [0] iota_S16_d0_w32_scVector

/-- The counters step `n` of tile `w` adds one to, a lane each: `(target · 5 + argmax) · 16 + lane`. -/
def idxVec (mp : Vec F S20971520 .f32) (mt : Vec F S4194304 .i32) (w n : ℕ) : IVec S16 32 :=
  k0_pay1 laneIota (tLane mt w n) (pLane mp w 0 n) (pLane mp w 1 n) (pLane mp w 2 n) (pLane mp w 3 n) (pLane mp w 4 n)

/-- One step on the counters: a one added at each lane's index (nothing where an index is out of range, which the
    precondition excludes). -/
def accStep (acc : Vec F S400 .f32) (idx : IVec S16 32) : Vec F S400 .f32 :=
  if h : k0_chk1 idx then storeIdx acc ![idx] (k0_pay2 (F := F)) (fun _ => 1#1) true (k0_idx1_inb idx h) else acc

/-- The tile's 400 counters after `n` steps. -/
def accAt (mp : Vec F S20971520 .f32) (mt : Vec F S4194304 .i32) (w : ℕ) : ℕ → Vec F S400 .f32
  | 0 => fun _ => Scalar.ofBits .f32 0x00000000#32
  | n + 1 => accStep (accAt mp mt w n) (idxVec mp mt w n)

/-- When the indices are in range, a step adds a one at each of them. -/
theorem accAt_succ (mp : Vec F S20971520 .f32) (mt : Vec F S4194304 .i32) (w n : ℕ) (h : k0_chk1 (idxVec mp mt w n)) :
    accAt mp mt w (n + 1)
      = storeIdx (accAt mp mt w n) ![idxVec mp mt w n] (k0_pay2 (F := F)) (fun _ => 1#1) true (k0_idx1_inb _ h) := by
  rw [accAt, accStep, dif_pos h]

/-- All 32 tiles' counters, as the kernel leaves them in its result. -/
def counts (mp : Vec F S20971520 .f32) (mt : Vec F S4194304 .i32) : Vec F S12800 .f32 :=
  fun j => accAt mp mt ((j 0).val / 400) 8192 (ix S400 (by decide) ((j 0).val % 400))

/-- Every label of the flattened target is a class number. -/
def LabelsOk (mt : Vec F S4194304 .i32) : Prop := ∀ j, (mt j : BitVec 32).toNat < 5

/-- The class the kernel predicts from five scores: the first of the largest, found by strict comparisons. -/
def amax5 (x0 x1 x2 x3 x4 : F .f32) : BitVec 32 :=
  let c1 := FloatOps.cmpf .ogt x1 x0
  let m1 := Scalar.select c1 x1 x0
  let c2 := FloatOps.cmpf .ogt x2 m1
  let m2 := Scalar.select c2 x2 m1
  let c3 := FloatOps.cmpf .ogt x3 m2
  let m3 := Scalar.select c3 x3 m2
  let c4 := FloatOps.cmpf .ogt x4 m3
  Scalar.select c4 4#32 (Scalar.select c3 3#32 (Scalar.select c2 2#32 (Scalar.select c1 1#32 0#32)))

omit [FloatOps F] in
/-- A choice between two numbers below five is below five. -/
theorem select_lt (b : BitVec 1) {x y : BitVec 32} (hx : x.toNat < 5) (hy : y.toNat < 5) :
    (Scalar.select b x y).toNat < 5 := by
  unfold Scalar.select; split <;> assumption

/-- The predicted class is below five. -/
theorem amax5_lt (x0 x1 x2 x3 x4 : F .f32) : (amax5 x0 x1 x2 x3 x4).toNat < 5 :=
  select_lt _ (by decide) (select_lt _ (by decide) (select_lt _ (by decide) (select_lt _ (by decide) (by decide))))

/-- The class predicted at lane `l` of step `n`. -/
def predLane (mp : Vec F S20971520 .f32) (w n : ℕ) (l : S16.Idx) : BitVec 32 :=
  amax5 (pLane mp w 0 n l) (pLane mp w 1 n l) (pLane mp w 2 n l) (pLane mp w 3 n l) (pLane mp w 4 n l)

/-- The counter index of a lane, from its label and its predicted class. -/
theorem idxVec_apply (mp : Vec F S20971520 .f32) (mt : Vec F S4194304 .i32) (w n : ℕ) (l : S16.Idx) :
    idxVec mp mt w n l
      = ((tLane mt w n l : BitVec 32) * 5#32 + predLane mp w n l) * 16#32 + laneIota l := by
  unfold idxVec k0_pay1 predLane amax5
  rfl

/-- Lane `l` of the lane numbers is `l`. -/
theorem laneIota_apply (l : S16.Idx) : laneIota l = BitVec.ofNat 32 (l 0).val := by
  revert l; decide +kernel

/-- The index of a lane, as a number. -/
theorem idxVec_toNat (mp : Vec F S20971520 .f32) (mt : Vec F S4194304 .i32) (hl : LabelsOk mt) (w n : ℕ) (l : S16.Idx) :
    (idxVec mp mt w n l).toNat
      = ((tLane mt w n l : BitVec 32).toNat * 5 + (predLane mp w n l).toNat) * 16 + (l 0).val := by
  have h1 : (tLane mt w n l : BitVec 32).toNat < 5 := hl _
  have h2 : (predLane mp w n l).toNat < 5 := amax5_lt _ _ _ _ _
  have h3 : (l 0).val < 16 := (l 0).isLt
  rw [idxVec_apply, laneIota_apply]
  simp only [BitVec.toNat_add, BitVec.toNat_mul, BitVec.toNat_ofNat]
  omega

/-- Every index lies inside the 400 counters. -/
theorem chk_idxVec (mp : Vec F S20971520 .f32) (mt : Vec F S4194304 .i32) (hl : LabelsOk mt) (w n : ℕ) :
    k0_chk1 (idxVec mp mt w n) := by
  intro a x
  have ha : a = 0 := Subsingleton.elim _ _
  subst ha
  show (idxVec mp mt w n x).toNat < 400
  have h1 : (tLane mt w n x : BitVec 32).toNat < 5 := hl _
  have h2 : (predLane mp w n x).toNat < 5 := amax5_lt _ _ _ _ _
  have h3 : (x 0).val < 16 := (x 0).isLt
  rw [idxVec_toNat mp mt hl]
  omega

end Cert.Proof.KernelIdeal

end
-- ==== Proof.Ideal.Base.lean ====
/-
  The program as the SparseCore launch theorem sees it: the resource algebra, the buffers a tile works on and the
  subcores' scratch storage taken apart.
-/
module

public import proofs.«01_k».proof.Proof.Ideal.Values
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program with its one pipelined region. -/
abbrev ΛP : Labels := Pipeline.Sig Λ₀ (Fin 1) fun p => (pcfgs (F := F) p).Adm
/-- The launch's configuration. -/
abbrev K : SparseCore.Cfg τ sig (ΛP (F := F)) 1 := sc (F := F)
/-- The program's definitions under those labels. -/
abbrev D [FloatOps F] : Defs nD τ sig (Elt F) (ΛP (F := F)) := Pipeline.defs pcfgs defs₀
/-- No loop of the bodies needs a variant. -/
abbrev 𝒱₀ : Variants := Variants.none
/-- The variants, lifted to the labels of the program. -/
abbrev 𝒱 : Variants := 𝒱₀.lift
/-- The only variant. -/
abbrev v₀ : 𝒱.V := Sum.inl none

/-- The launch's semaphores are distinct and none of them is a kernel's own; every shared buffer is at its place. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the transfers' counters -/

/-- The handshakes' rounds. -/
abbrev UH : Type := URounds (GSem nD τ sig) ℕ
/-- The region's rounds. -/
abbrev UP : Type := URounds (GSem nD τ sig) Unit
/-- The whole ghost state. -/
abbrev UU : Type := UH × (UP × Counters)

local notation "𝕄" => MT nD τ sig (HIx 1) (Elt F) ℕ UU ℕ

/-- The handshakes' rounds live in the left factor. -/
abbrev EH : Emb UH (MT nD τ sig (HIx 1) (Elt F) ℕ UU ℕ) := embL

/-- The pipelined region's rounds live in the middle. -/
def EP : Emb UP (MT nD τ sig (HIx 1) (Elt F) ℕ UU ℕ) := (Emb.inl : Emb UP (UP × Counters)).trans embR

/-- The region's rounds lie inside the ghost state. -/
instance EP_landsIn : (EP : Emb UP 𝕄).LandsIn (upEmb : UEmb _ 𝕄) := by unfold EP; infer_instance

/-! ## The buffers -/

/-- Where the flattened prediction lies. -/
abbrev pLoc (d : Dev nD) : Loc nD τ sig := (SparseCore.T d).loc main_v0
/-- Where the flattened target lies. -/
abbrev tLoc (d : Dev nD) : Loc nD τ sig := (SparseCore.T d).loc main_v1
/-- Where the tiles' counters lie. -/
abbrev oLoc (d : Dev nD) : Loc nD τ sig := (SparseCore.T d).loc main_v2

/-- The flattened prediction, as a tile sees it. -/
abbrev pV : Memref sig .scVector .hbm S20971520 .f32 := Memref.whole main_v0_scv
/-- The flattened target, as a tile sees it. -/
abbrev tV : Memref sig .scVector .hbm S4194304 .i32 := Memref.whole main_v1_scv
/-- The array of all tiles' counters, as a tile sees it. -/
abbrev oV : Memref sig .scVector .hbm S12800 .f32 := Memref.whole main_v2_scv
/-- A tile's buffer of five class planes. -/
abbrev sP : Memref sig .scVector .vmem S40960 .f32 := Memref.whole cc0_scratch0
/-- A tile's buffer of labels. -/
abbrev sT : Memref sig .scVector .vmem S8192 .i32 := Memref.whole cc0_scratch1
/-- A tile's 400 counters. -/
abbrev sA : Memref sig .scVector .vmem S400 .f32 := Memref.whole cc0_scratch2

section Tile

variable (d : Dev nD) (L : grid0.Coords)

/-- The tile's SparseCore. -/
abbrev cV : Fin τ.nSC := (L 0).castLE hcore0
/-- The tile's number in its SparseCore. -/
abbrev jV : Fin τ.nSub := (L 1).castLE hsub0

/-- The tile's thread. -/
abbrev vt : Thread nD τ := V d (cV L) (jV L)

/-- The tile's 400 words of the result. -/
abbrev oK : Memref sig .scVector .hbm S400 .f32 :=
  oV.slice (Rect.unit (s := S12800) (k0_off6 L) S400.size (k0_off6_inb L)) (fun _ => rfl)

/-- The semaphore of copy 0. -/
abbrev cell0 : GSem nD τ sig := (vt d L, .dma cc0_scoped0.sem)
/-- The semaphore of copy 1. -/
abbrev cell1 : GSem nD τ sig := (vt d L, .dma cc0_scoped1.sem)
/-- The semaphore of copy 2. -/
abbrev cell2 : GSem nD τ sig := (vt d L, .dma cc0_scoped2.sem)
/-- The semaphore of copy 3. -/
abbrev cell3 : GSem nD τ sig := (vt d L, .dma cc0_scoped3.sem)
/-- The semaphore of copy 4. -/
abbrev cell4 : GSem nD τ sig := (vt d L, .dma cc0_scoped4.sem)
/-- The semaphore of copy 5. -/
abbrev cell5 : GSem nD τ sig := (vt d L, .dma cc0_scoped5.sem)
/-- The semaphore of copy 6. -/
abbrev cell6 : GSem nD τ sig := (vt d L, .dma cc0_scoped6.sem)

/-- The seven semaphores of the tile's copies. -/
abbrev semRef (n : Fin 7) : SemLoc sig :=
  .dma (![cc0_scoped0.sem, cc0_scoped1.sem, cc0_scoped2.sem, cc0_scoped3.sem, cc0_scoped4.sem, cc0_scoped5.sem, cc0_scoped6.sem] n)

/-- The seven semaphores are different. -/
theorem semRef_inj : Function.Injective semRef := by decide

/-- The cells of the tile's copies. -/
def cells7 : Finset (GSem nD τ sig) :=
  Finset.univ.map ⟨fun n : Fin 7 => (vt d L, semRef n), fun _ _ e => semRef_inj (Prod.mk.inj e).2⟩

/-- The seven semaphores are the kernel's own. -/
theorem semRef_scoped : ∀ n, (semRef n).isScoped .scVector = true := by decide

/-- The cells of the tile's copies are the tile's own. -/
theorem cells7_sub : cells7 d L ⊆ ownCells (vt d L) := by
  intro g hg
  obtain ⟨n, -, rfl⟩ := Finset.mem_map.mp hg
  exact mem_ownCells.mpr ⟨rfl, semRef_scoped n⟩

/-- The subcore's own semaphores at zero: the seven of its copies and the rest. -/
theorem ownSems0_V :
    (ownSems0 (vt d L) : sProp 𝕄)
      = iprop((semVal (cell0 d L) 0 ∗ semVal (cell1 d L) 0 ∗ semVal (cell2 d L) 0 ∗ semVal (cell3 d L) 0
          ∗ semVal (cell4 d L) 0 ∗ semVal (cell5 d L) 0 ∗ semVal (cell6 d L) 0)
          ∗ bigSep (ownCells (vt d L) \ cells7 d L) fun g => semVal g 0) := by
  unfold SparseCore.Cfg.ownSems0
  rw [SparseCore.bigSep_sdiff_split' (cells7_sub d L)]
  congr 1
  unfold cells7
  rw [bigSep_map, bigSep_univ_eq_bigSepL [0, 1, 2, 3, 4, 5, 6] (by decide) (by decide)]
  rfl

/-- The tile's three scratch buffers. -/
abbrev bufRef (n : Fin 3) : Ref sig .scVector := ![cc0_scratch0, cc0_scratch1, cc0_scratch2] n

/-- The three scratch buffers are different. -/
theorem bufRef_inj : Function.Injective bufRef := by decide

/-- The tile's three scratch buffers, as buffers of the device. -/
def refs3 : Finset (DevRef τ sig) :=
  Finset.univ.map ⟨fun n : Fin 3 => (Proc.scVector (cV L) (jV L)).devRef (bufRef n), fun _ _ e =>
    bufRef_inj (Proc.devRef_injective _ e)⟩

/-- The three scratch buffers are the tile's own. -/
theorem refs3_sub : refs3 L ⊆ ownRefs (τ := τ) (.scVector (cV L) (jV L)) := by
  intro b hb
  obtain ⟨n, -, rfl⟩ := Finset.mem_map.mp hb
  exact SparseCore.Cfg.mem_ownRefs_of_owner (p := Proc.scVector (cV L) (jV L)) (by
    match n with | 0 => rfl | 1 => rfl | 2 => rfl)

/-- The subcore's own buffers: the three scratch buffers, at some contents, and the rest. -/
theorem ownBufs_V :
    (ownBufs (vt d L) : sProp 𝕄)
      = iprop(((∃ f, (vt d L).loc cc0_scratch0 ↦{fullShare} f) ∗ (∃ f, (vt d L).loc cc0_scratch1 ↦{fullShare} f)
          ∗ (∃ f, (vt d L).loc cc0_scratch2 ↦{fullShare} f))
          ∗ bigSep (ownRefs (τ := τ) (.scVector (cV L) (jV L)) \ refs3 L)
              fun b => iprop(∃ f, ((d, b) : Loc nD τ sig) ↦{fullShare} f)) := by
  unfold SparseCore.Cfg.ownBufs
  refine (SparseCore.bigSep_sdiff_split' (refs3_sub L)).trans ?_
  congr 1
  unfold refs3
  rw [bigSep_map, bigSep_univ_eq_bigSepL [0, 1, 2] (by decide) (by decide)]
  rfl

end Tile

end Cert.Proof.KernelIdeal

end
-- ==== Proof.Ideal.Chunks.lean ====
/-
  What the copies into a tile's scratch buffers and the loads out of them hold, in terms of the flattened prediction and
  target.
-/
module

public import proofs.«01_k».proof.Proof.Ideal.Base
public import Idealize.ShloMosaic.Lib.Writes

@[expose] public section

noncomputable section

namespace Cert.Proof.KernelIdeal

open Cert.KernelIdeal Cert.KernelIdeal.Gen
open Idealize.ShloMosaic

variable {F : FTy → Type}

/-- There are two SparseCores. -/
theorem coords0 (L : grid0.Coords) : (L 0).val < 2 := (L 0).isLt
/-- A SparseCore has sixteen tiles. -/
theorem coords1 (L : grid0.Coords) : (L 1).val < 16 := (L 1).isLt

section
variable [FloatOps F]

/-- Writes that all store the same word, covering the counters, leave that word everywhere. -/
theorem writes_const (z : F .f32) (f : Vec F S400 .f32) (P : List (View.Piece (Elt F) S400 .f32))
    (hP : ∀ p ∈ P, ∀ x, p.2 x = z) (hc : ∀ y, ∃ p ∈ P, y ∈ p.1.set) :
    (sA).view.writes (Elt F) f P = fun _ => z :=
  funext fun y => View.read_writes_apply_of_pieces (sA).view f (fun _ => z) P (fun p hp x => hP p hp x) y (hc y)

/-- Writes that store the chunk's words where they belong, covering the scratch buffer, leave the chunk. -/
theorem writes_chunk (mp : Vec F S20971520 .f32) (w k : ℕ) (f : Vec F S40960 .f32) (P : List (View.Piece (Elt F) S40960 .f32))
    (hP : ∀ p ∈ P, ∀ x, p.2 x = pChunk mp w k (p.1.emb x)) (hc : ∀ y, ∃ p ∈ P, y ∈ p.1.set) :
    (sP).view.writes (Elt F) f P = pChunk mp w k :=
  funext fun y => View.read_writes_apply_of_pieces (sP).view f (pChunk mp w k) P hP y (hc y)

/-- Class plane `r` of chunk `k`, as the copy reads it, is the chunk's words at plane `r` of the scratch buffer. -/
theorem plane_eq (L : grid0.Coords) (k : Fin k0_t1_loop.trips) (r : Fin 5) (b : BitVec 32) (hb : b = BitVec.ofNat 32 r.val)
    (mp : Vec F S20971520 .f32)
    (h : ∀ a, (k0_off1 L k b) a + S8192.size a ≤ S20971520.size a)
    (hs : ∀ a, (Rect.unit (s := S20971520) (k0_off1 L k b) S8192.size h).stride a = 1)
    (o : Fin 1 → ℕ) (ho : o 0 = 8192 * r.val) (h' : ∀ a, o a + S8192.size a ≤ S40960.size a) (x : S8192.Idx) :
    ((pV.slice (Rect.unit (s := S20971520) (k0_off1 L k b) S8192.size h) hs).view.read (Elt F) mp) x
      = pChunk mp (wid L) k.val ((Rect.unit (s := S40960) o S8192.size h').emb x) := by
  subst hb
  show mp ((Rect.unit (s := S20971520) (k0_off1 L k (BitVec.ofNat 32 r.val)) S8192.size h).emb x) = mp _
  refine congrArg mp (funext fun a => Fin.ext ?_)
  have ha : a = 0 := Subsingleton.elim _ _
  subst ha
  have hx : (x 0).val < 8192 := (x 0).isLt
  have hk : k.val < 16 := k.isLt
  have hr := r.isLt
  have h0 := coords0 L
  have h1 := coords1 L
  have e0 : k0_off1 L k (BitVec.ofNat 32 r.val) 0 = (wid L / 16 * 5 + r.val) * 2097152 + wid L % 16 * 131072 + 8192 * k.val := by
    rw [off1_eq]; rfl
  have hw : wid L < 32 := wid_lt L
  simp only [ixP, ix, pBase, Rect.emb_apply, Rect.unit]
  show k0_off1 L k (BitVec.ofNat 32 r.val) 0 + 1 * (x 0).val = (_ : ℕ) % 20971520
  rw [e0]
  show _ = ((wid L / 16 * 5 + (o 0 + 1 * (x 0).val) / 8192) * 2097152 + wid L % 16 * 131072 + 8192 * k.val + (o 0 + 1 * (x 0).val) % 8192) % 20971520
  rw [ho]
  omega

/-- Chunk `k` of the target, as the copy reads it. -/
theorem labels_eq (L : grid0.Coords) (k : Fin k0_t1_loop.trips) (mt : Vec F S4194304 .i32)
    (h : ∀ a, (k0_off2 L k) a + S8192.size a ≤ S4194304.size a)
    (hs : ∀ a, (Rect.unit (s := S4194304) (k0_off2 L k) S8192.size h).stride a = 1) :
    ((tV.slice (Rect.unit (s := S4194304) (k0_off2 L k) S8192.size h) hs).view.read (Elt F) mt)
      = tChunk mt (wid L) k.val := by
  funext x
  show mt ((Rect.unit (s := S4194304) (k0_off2 L k) S8192.size h).emb x) = mt _
  refine congrArg mt (funext fun a => Fin.ext ?_)
  have ha : a = 0 := Subsingleton.elim _ _
  subst ha
  have hx : (x 0).val < 8192 := (x 0).isLt
  have hk : k.val < 16 := k.isLt
  have e0 : k0_off2 L k 0 = wid L * 131072 + 8192 * k.val := by rw [off2_eq]; rfl
  have hw : wid L < 32 := wid_lt L
  show k0_off2 L k 0 + 1 * (x 0).val = (wid L * 131072 + 8192 * k.val + (x 0).val) % 4194304
  rw [e0]
  omega

/-- Sixteen words of the prediction's scratch buffer are a step's scores of one class. -/
theorem load_pLane (mp : Vec F S20971520 .f32) (w k : ℕ) (hw : w < 32) (hk : k < 16) (t : Fin k0_t2_loop.trips) (c : ℕ) (hc : c < 5) (o : Fin 1 → ℕ)
    (ho : o 0 = 8192 * c + 16 * t.val) (h : ∀ a, o a + S16.size a ≤ S40960.size a) :
    View.readAt (Elt F) (sP).view (Rect.unit (s := S40960) o S16.size h).toLoadRect (pChunk mp w k) = pLane mp w c (512 * k + t.val) := by
  funext x
  have hx : (x 0).val < 16 := (x 0).isLt
  have ht : t.val < 512 := t.isLt
  show mp _ = mp _
  refine congrArg mp (funext fun a => Fin.ext ?_)
  obtain rfl : a = 0 := Subsingleton.elim _ _
  show (pBase w ((o 0 + 1 * (x 0).val) / 8192) + 8192 * k + (o 0 + 1 * (x 0).val) % 8192) % 20971520
    = (pBase w c + 16 * (512 * k + t.val) + (x 0).val) % 20971520
  have e : (o 0 + 1 * (x 0).val) / 8192 = c := by omega
  rw [e]
  omega

/-- Sixteen words of the target's scratch buffer are a step's labels. -/
theorem load_tLane (mt : Vec F S4194304 .i32) (w k : ℕ) (t : Fin k0_t2_loop.trips) (o : Fin 1 → ℕ)
    (ho : o 0 = 16 * t.val) (h : ∀ a, o a + S16.size a ≤ S8192.size a) :
    View.readAt (Elt F) (sT).view (Rect.unit (s := S8192) o S16.size h).toLoadRect (tChunk mt w k) = tLane mt w (512 * k + t.val) := by
  funext x
  show mt _ = mt _
  refine congrArg mt (funext fun a => Fin.ext ?_)
  obtain rfl : a = 0 := Subsingleton.elim _ _
  show (w * 131072 + 8192 * k + (o 0 + 1 * (x 0).val)) % 4194304 = (w * 131072 + 16 * (512 * k + t.val) + (x 0).val) % 4194304
  rw [ho]
  omega

/-- The tile's counters at the end, where its 400 words of the result lie. -/
theorem counts_slice (L : grid0.Coords) (mp : Vec F S20971520 .f32) (mt : Vec F S4194304 .i32) :
    (oK L).view.read (Elt F) (counts mp mt) = accAt mp mt (wid L) 8192 := by
  funext x
  show accAt mp mt ((k0_off6 L 0 + 1 * (x 0).val) / 400) 8192 (ix S400 _ ((k0_off6 L 0 + 1 * (x 0).val) % 400)) = _
  have hx : (x 0).val < 400 := (x 0).isLt
  have e0 : k0_off6 L 0 = 400 * wid L := by rw [off6_eq]; rfl
  rw [e0, show (400 * wid L + 1 * (x 0).val) / 400 = wid L by omega, show (400 * wid L + 1 * (x 0).val) % 400 = (x 0).val by omega]
  refine congrArg _ (funext fun a => Fin.ext ?_)
  have ha : a = 0 := Subsingleton.elim _ _
  subst ha
  exact Nat.mod_eq_of_lt hx

end

end Cert.Proof.KernelIdeal

end
-- ==== Proof.Ideal.Tile.lean ====
/-
  One tile's run: from shares of the prediction and the target and its 400 words of the result, to those words holding
  the tile's counters.
-/
module

public import proofs.«01_k».proof.Proof.Ideal.Chunks
public import Idealize.ShloMosaic.Lib.SparseCore.Ops

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs as the program's body table passes them
local notation "pW" => (Memref.whole Cert.KernelIdeal.main_v0_scv : Memref Cert.KernelIdeal.sig Kind.scVector Space.hbm Cert.KernelIdeal.S20971520 EltTy.f32)
local notation "tW" => (Memref.whole Cert.KernelIdeal.main_v1_scv : Memref Cert.KernelIdeal.sig Kind.scVector Space.hbm Cert.KernelIdeal.S4194304 EltTy.i32)
local notation "oW" => (Memref.whole Cert.KernelIdeal.main_v2_scv : Memref Cert.KernelIdeal.sig Kind.scVector Space.hbm Cert.KernelIdeal.S12800 EltTy.f32)
local notation "aP" => (Memref.whole Cert.KernelIdeal.cc0_scratch0 : Memref Cert.KernelIdeal.sig Kind.scVector Space.vmem Cert.KernelIdeal.S40960 EltTy.f32)
local notation "aT" => (Memref.whole Cert.KernelIdeal.cc0_scratch1 : Memref Cert.KernelIdeal.sig Kind.scVector Space.vmem Cert.KernelIdeal.S8192 EltTy.i32)
local notation "aC" => (Memref.whole Cert.KernelIdeal.cc0_scratch2 : Memref Cert.KernelIdeal.sig Kind.scVector Space.vmem Cert.KernelIdeal.S400 EltTy.f32)

/-- The start of a class plane in the prediction, in closed form. -/
instance (i : grid0.Coords) (k : Fin k0_t1_loop.trips) : ClosedOff (k0_off1 i k (BitVec.ofNat 32 0)) := ⟨_, off1_eq i k 0⟩
/-- The start of a class plane in the prediction, in closed form. -/
instance (i : grid0.Coords) (k : Fin k0_t1_loop.trips) : ClosedOff (k0_off1 i k (BitVec.ofNat 32 1)) := ⟨_, off1_eq i k 1⟩
/-- The start of a class plane in the prediction, in closed form. -/
instance (i : grid0.Coords) (k : Fin k0_t1_loop.trips) : ClosedOff (k0_off1 i k (BitVec.ofNat 32 2)) := ⟨_, off1_eq i k 2⟩
/-- The start of a class plane in the prediction, in closed form. -/
instance (i : grid0.Coords) (k : Fin k0_t1_loop.trips) : ClosedOff (k0_off1 i k (BitVec.ofNat 32 3)) := ⟨_, off1_eq i k 3⟩
/-- The start of a class plane in the prediction, in closed form. -/
instance (i : grid0.Coords) (k : Fin k0_t1_loop.trips) : ClosedOff (k0_off1 i k (BitVec.ofNat 32 4)) := ⟨_, off1_eq i k 4⟩
/-- The start of the labels in the target, in closed form. -/
instance (i : grid0.Coords) (k : Fin k0_t1_loop.trips) : ClosedOff (k0_off2 i k) := ⟨_, off2_eq i k⟩
/-- The start of the tile's counters in the result, in closed form. -/
instance (i : grid0.Coords) : ClosedOff (k0_off6 i) := ⟨_, off6_eq i⟩

variable [FloatOps F]

section Body

variable (d : Dev nD) (L : grid0.Coords)
variable (mp : Vec F S20971520 .f32) (mt : Vec F S4194304 .i32) (q : PosShare TreeShare)

/-- A chunk's steps: the scratch buffers hold the chunk, the counters those of the steps done. -/
def inv2 (k : ℕ) (t : ℕ) (_ : BitVec 32) : sProp 𝕄 :=
  iprop(((aP).view.loc (vt d L) ↦{fullShare} pChunk mp (wid L) k)
    ∗ ((aT).view.loc (vt d L) ↦{fullShare} tChunk mt (wid L) k)
    ∗ ((aC).view.loc (vt d L) ↦{fullShare} accAt mp mt (wid L) (512 * k + t)))

/-- The tile's chunks: shares of the prediction and the target, the scratch buffers at anything, the counters those of
    the chunks done, the copies' semaphores at zero. -/
def inv1 (O : CellTallies nD τ sig (HIx 1)) (W : Waits sig (HIx 1)) (k : ℕ) (_ : BitVec 32) : sProp 𝕄 :=
  iprop(Transfers.MayWaits (vt d L) (none : HIx 1) O
    ∗ ((pW).view.loc (vt d L) ↦{q} mp) ∗ ((tW).view.loc (vt d L) ↦{q} mt)
    ∗ (∃ f, (aP).view.loc (vt d L) ↦{fullShare} f) ∗ (∃ f, (aT).view.loc (vt d L) ↦{fullShare} f)
    ∗ ((aC).view.loc (vt d L) ↦{fullShare} accAt mp mt (wid L) (512 * k))
    ∗ semVal (cell0 d L) 0 ∗ semVal (cell1 d L) 0 ∗ semVal (cell2 d L) 0 ∗ semVal (cell3 d L) 0
    ∗ semVal (cell4 d L) 0 ∗ semVal (cell5 d L) 0
    ∗ ∃ W', ⌜∀ p ∈ W', p ∈ W ∨ p.2 = none⌝ ∗ owes (vt d L) O W')

/-- The counters held through the scatter's window are the counters held whole. -/
theorem aC_access (f : Vec F S400 .f32) :
    (((aC).access (.whole S400)).loc (vt d L) ↦[((aC).access (.whole S400)).set]{fullShare} f : sProp 𝕄)
      = ((aC).view.loc (vt d L) ↦{fullShare} f) := by
  rw [show ((aC).access (.whole S400)).set = Finset.univ from Memref.set_access_whole (cc0_scratch2 : Ref sig .scVector)]

/-- What a step's scatter leaves is the next step's counters. -/
theorem aC_step (w n : ℕ) (hc : k0_chk1 (idxVec mp mt w n)) :
    (((aC).access (.whole S400)).loc (vt d L) ↦[((aC).access (.whole S400)).set]{fullShare}
        (((aC).access (.whole S400)).write (Elt F) (accAt mp mt w n)
          (storeIdx (((aC).access (.whole S400)).read (Elt F) (accAt mp mt w n)) ![idxVec mp mt w n] (k0_pay2 (F := F)) (fun _ => 1#1) true
            (k0_idx1_inb _ hc)) Finset.univ) : sProp 𝕄)
      = ((aC).view.loc (vt d L) ↦{fullShare} accAt mp mt w (n + 1)) := by
  have e : (((aC).access (.whole S400)).write (Elt F) (accAt mp mt w n)
      (storeIdx (((aC).access (.whole S400)).read (Elt F) (accAt mp mt w n)) ![idxVec mp mt w n] (k0_pay2 (F := F)) (fun _ => 1#1) true
        (k0_idx1_inb _ hc)) Finset.univ) = accAt mp mt w (n + 1) :=
    (Memref.write_access_whole_univ (Elt F) cc0_scratch2 _ _).trans
      ((congrArg (fun g => storeIdx g ![idxVec mp mt w n] (k0_pay2 (F := F)) (fun _ => 1#1) true (k0_idx1_inb _ hc))
        (Memref.read_access_whole (Elt F) cc0_scratch2 _)).trans (accAt_succ mp mt w n hc).symm)
  rw [e]
  exact aC_access d L _

/-- The tile's counters copied out are its part of the result. -/
theorem oK_counts (fo : Vec F S12800 .f32) :
    ((oK L).view.loc (vt d L) ↦[(oK L).view.set]{fullShare}
        (oK L).view.writes (Elt F) fo [⟨Rect.whole S400, accAt mp mt (wid L) 8192⟩] : sProp 𝕄)
      = ((oK L).view.loc (vt d L) ↦[(oK L).view.set]{fullShare} counts mp mt) := by
  refine pointsTo_congr fun i hi => ?_
  obtain ⟨x, -, rfl⟩ := Finset.mem_map.mp hi
  have h1 := View.read_writes_apply_of_pieces (oK L).view fo (accAt mp mt (wid L) 8192) [⟨Rect.whole S400, accAt mp mt (wid L) 8192⟩]
    (fun p hp y => by
      obtain rfl := List.mem_singleton.mp hp
      exact congrArg _ (Rect.emb_whole_apply S400 y).symm) x ⟨_, List.mem_singleton.mpr rfl, by rw [Rect.set_whole]; exact Finset.mem_univ _⟩
  exact h1.trans (congrFun (counts_slice L mp mt).symm x)

set_option maxHeartbeats 1000000 in
/-- One tile's run: with labels in range it ends with the prediction and the target as they were and its counters
copied to its words of the result. -/
theorem tile_run (hl : LabelsOk mt) (O : CellTallies nD τ sig (HIx 1)) (W : Waits sig (HIx 1)) (hO : ∀ g, O g none = 0)
    (fo : Vec F S12800 .f32) :
    iprop((levAts (K (F := F)).L (K (F := F)).lev : sProp 𝕄)
        ∗ (((pW).view.loc (vt d L) ↦{q} mp) ∗ ((tW).view.loc (vt d L) ↦{q} mt)
          ∗ ((oK L).view.loc (vt d L) ↦[(oK L).view.set]{fullShare} fo))
        ∗ (∃ f, (aP).view.loc (vt d L) ↦{fullShare} f) ∗ (∃ f, (aT).view.loc (vt d L) ↦{fullShare} f) ∗ (∃ f, (aC).view.loc (vt d L) ↦{fullShare} f)
        ∗ (semVal (cell0 d L) 0 ∗ semVal (cell1 d L) 0 ∗ semVal (cell2 d L) 0 ∗ semVal (cell3 d L) 0
          ∗ semVal (cell4 d L) 0 ∗ semVal (cell5 d L) 0 ∗ semVal (cell6 d L) 0)
        ∗ owes (vt d L) O W)
      ⊢ wp frame (wpE (defs₀ (F := F)) 𝒱₀ (vt d L) none) Set.univ
          (cc0_body L pW (Memref.isWhole_whole _) tW (Memref.isWhole_whole _) oW (Memref.isWhole_whole _)
            aP (Memref.isWhole_whole _) aT (Memref.isWhole_whole _) aC (Memref.isWhole_whole _)
            cc0_scoped0 cc0_scoped1 cc0_scoped2 cc0_scoped3 cc0_scoped4 cc0_scoped5 cc0_scoped6)
          fun _ => iprop((((pW).view.loc (vt d L) ↦{q} mp) ∗ ((tW).view.loc (vt d L) ↦{q} mt)
          ∗ ((oK L).view.loc (vt d L) ↦[(oK L).view.set]{fullShare} counts mp mt))
        ∗ ((∃ f, (aP).view.loc (vt d L) ↦{fullShare} f) ∗ (∃ f, (aT).view.loc (vt d L) ↦{fullShare} f) ∗ (∃ f, (aC).view.loc (vt d L) ↦{fullShare} f))
        ∗ (semVal (cell0 d L) 0 ∗ semVal (cell1 d L) 0 ∗ semVal (cell2 d L) 0 ∗ semVal (cell3 d L) 0
          ∗ semVal (cell4 d L) 0 ∗ semVal (cell5 d L) 0 ∗ semVal (cell6 d L) 0)
        ∗ ∃ W', ⌜∀ p ∈ W', p ∈ W ∨ p.2 = none⌝ ∗ owes (vt d L) O W') := by
  rw [cc0_body_eq_skeleton]; unfold cc0_body_skel
  iintro ⟨#Hlv, ⟨Hp, Ht, Ho⟩, ⟨%fp, HaP⟩, ⟨%ft, HaT⟩, ⟨%fc, HaC⟩, ⟨Hs0, Hs1, Hs2, Hs3, Hs4, Hs5, Hs6⟩, HO⟩
  ihave Hmw := ((K (F := F)).mayWaits_none (thr := vt d L) hO) $$ Hlv
  sl_exec
  have e0 : (aC).view.writes (Elt F) (aC).view.junk tile_run.sl.HaC_25 = accAt mp mt (wid L) (512 * 0) := by
    sl_unfold_run_names
    refine writes_const _ _ _ ?_ (View.cover_of_tiled _ ![16] rfl)
    repeat (refine List.forall_mem_cons.mpr ⟨fun _ => rfl, ?_⟩)
    exact fun _ h => absurd h List.not_mem_nil
  sl_for (inv1 d L mp mt q O W) $$ [Hmw Hp Ht HaP HaT HaC Hs0 Hs1 Hs2 Hs3 Hs4 Hs5 HO]
  case region =>
    intro k _
    unfold inv1
    iintro ⟨#Hmw, Hp, Ht, ⟨%fp, HaP⟩, ⟨%ft, HaT⟩, HaC, Hs0, Hs1, Hs2, Hs3, Hs4, Hs5, %W', %hW', HO⟩
    sl_exec (disch := exact View.amount_pos _ _ (show 0 < S8192.numel by decide))
    have eP : (aP).view.writes (Elt F) (aP).view.junk
      [⟨Rect.unit ![32768] S8192.size inb_S40960_S8192_32768, tile_run.sl.dma0_4 L mp k⟩,
        ⟨Rect.unit ![24576] S8192.size inb_S40960_S8192_24576, tile_run.sl.dma0_3 L mp k⟩,
        ⟨Rect.unit ![16384] S8192.size inb_S40960_S8192_16384, tile_run.sl.dma0_2 L mp k⟩,
        ⟨Rect.unit ![8192] S8192.size inb_S40960_S8192_8192, tile_run.sl.dma0_1 L mp k⟩,
        ⟨Rect.unit ![0] S8192.size inb_S40960_S8192_0, tile_run.sl.dma0 L mp k⟩] = pChunk mp (wid L) k.val := by
      refine writes_chunk _ _ _ _ _ ?_ (View.cover_of_tiled _ ![8192] rfl)
      sl_unfold_run_names
      refine List.forall_mem_cons.mpr ⟨fun x => plane_eq L k 4 4#32 rfl mp (k0_off1_inb L k 4) (fun _ => rfl) ![32768] rfl inb_S40960_S8192_32768 x, ?_⟩
      refine List.forall_mem_cons.mpr ⟨fun x => plane_eq L k 3 3#32 rfl mp (k0_off1_inb L k 3) (fun _ => rfl) ![24576] rfl inb_S40960_S8192_24576 x, ?_⟩
      refine List.forall_mem_cons.mpr ⟨fun x => plane_eq L k 2 2#32 rfl mp (k0_off1_inb L k 2) (fun _ => rfl) ![16384] rfl inb_S40960_S8192_16384 x, ?_⟩
      refine List.forall_mem_cons.mpr ⟨fun x => plane_eq L k 1 1#32 rfl mp (k0_off1_inb L k 1) (fun _ => rfl) ![8192] rfl inb_S40960_S8192_8192 x, ?_⟩
      refine List.forall_mem_cons.mpr ⟨fun x => plane_eq L k 0 0#32 rfl mp (k0_off1_inb L k 0) (fun _ => rfl) ![0] rfl inb_S40960_S8192_0 x, ?_⟩
      exact fun _ h => absurd h List.not_mem_nil
    have eT : View.write (Elt F) (aT).view ft (tile_run.sl.dma0_5 L mt k) Finset.univ = tChunk mt (wid L) k.val := by
      refine (View.write_whole_univ _ _ _).trans ?_
      sl_unfold_run_names
      exact labels_eq L k mt _ _
    rw [eP, eT]
    sl_for (inv2 d L mp mt k.val) $$ [HaP HaT HaC]
    case region =>
      intro t _
      unfold inv2
      iintro ⟨HaP, HaT, HaC⟩
      sl_exec
      have ev : tile_run.sl.v126 L mp mt k t = idxVec mp mt (wid L) (512 * k.val + t.val) := by
        sl_unfold_run_names
        rw [load_tLane mt (wid L) k.val t (k0_off3 t) (by rw [k0_off3_eq]; rfl),
          load_pLane mp (wid L) k.val (wid_lt L) k.isLt t 0 (by decide) (k0_off4 t) (by rw [k0_off4_eq]; exact (Nat.zero_add _).symm),
          load_pLane mp (wid L) k.val (wid_lt L) k.isLt t 1 (by decide) (k0_off5 t 8192#32) ((congrFun (k0_off5_eq t 0) 0).trans (by show 8192 * 0 + 16 * t.val + 8192 = _; omega)),
          load_pLane mp (wid L) k.val (wid_lt L) k.isLt t 2 (by decide) (k0_off5 t 16384#32) ((congrFun (k0_off5_eq t 1) 0).trans (by show 8192 * 1 + 16 * t.val + 8192 = _; omega)),
          load_pLane mp (wid L) k.val (wid_lt L) k.isLt t 3 (by decide) (k0_off5 t 24576#32) ((congrFun (k0_off5_eq t 2) 0).trans (by show 8192 * 2 + 16 * t.val + 8192 = _; omega)),
          load_pLane mp (wid L) k.val (wid_lt L) k.isLt t 4 (by decide) (k0_off5 t 32768#32) ((congrFun (k0_off5_eq t 3) 0).trans (by show 8192 * 3 + 16 * t.val + 8192 = _; omega))]
        rfl
      rw [ev]
      rw [wp_assume_of _ _ _ _ (chk_idxVec mp mt hl (wid L) (512 * k.val + t.val))]
      ihave HaC' := (Entails.of_eq (aC_access (F := F) d L _).symm) $$ HaC
      iapply (SparseCore.wp_vectorStoreIdx 𝒱₀ (vt d L) none Set.univ (base := aC)) $$ HaC'; iintro HaC'
      ihave HaC := (Entails.of_eq (aC_step (F := F) d L mp mt (wid L) (512 * k.val + t.val) (chk_idxVec mp mt hl (wid L) (512 * k.val + t.val)))) $$ HaC'
      sl_step
      isplitl [HaP]; · iexact HaP
      isplitl [HaT]; · iexact HaT
      rw [← Nat.add_assoc]
      iexact HaC
    · unfold inv2
      isplitl [HaP]; · iexact HaP
      isplitl [HaT]; · iexact HaT
      iexact HaC
    iintro %_ HI
    unfold inv2
    icases HI with ⟨HaP, HaT, HaC⟩
    sl_exec
    sl_step
    isplitr; · iexact Hmw
    isplitl [Hp]; · iexact Hp
    isplitl [Ht]; · iexact Ht
    isplitl [HaP]; · iexists _; iexact HaP
    isplitl [HaT]; · iexists _; iexact HaT
    isplitl [HaC]; · iexact HaC
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexists _; isplitr
    swap
    · iexact HO
    · ipureintro; intro p hp
      simp only [Finset.mem_insert] at hp
      rcases hp with hp | hp | hp | hp | hp | hp | hp
      all_goals first | exact hW' p hp | exact .inr (hp ▸ rfl)
  · rw [e0]
    unfold inv1
    isplitr; · iexact Hmw
    isplitl [Hp]; · iexact Hp
    isplitl [Ht]; · iexact Ht
    isplitl [HaP]; · iexists _; iexact HaP
    isplitl [HaT]; · iexists _; iexact HaT
    isplitl [HaC]; · iexact HaC
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexists W; isplitr
    · ipureintro; exact fun p hp => .inl hp
    · iexact HO
  iintro %_ HI
  unfold inv1
  icases HI with ⟨-, Hp, Ht, ⟨%fp, HaP⟩, ⟨%ft, HaT⟩, HaC, Hs0, Hs1, Hs2, Hs3, Hs4, Hs5, %W', %hW', HO⟩
  sl_exec (disch := exact View.amount_pos _ _ (show 0 < S400.numel by decide))
  have eO : tile_run.sl.dma0_6 L mp mt = accAt mp mt (wid L) 8192 := by
    sl_unfold_run_names
    rfl
  rw [eO]
  sl_step
  isplitl [Hp Ht Ho]
  · isplitl [Hp]; · iexact Hp
    isplitl [Ht]; · iexact Ht
    iapply (Entails.of_eq (oK_counts d L mp mt fo)); iexact Ho
  isplitl [HaP HaT HaC]
  · isplitl [HaP]; · iexists _; iexact HaP
    isplitl [HaT]; · iexists _; iexact HaT
    iexists _; iexact HaC
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  iexists _; isplitr
  swap
  · iexact HO
  · ipureintro; intro p hp
    rcases Finset.mem_insert.mp hp with hp | hp
    · exact .inr (hp ▸ rfl)
    · exact hW' p hp

end Body

end Cert.Proof.KernelIdeal

end
-- ==== Proof.Ideal.Launch.lean ====
/-
  The SparseCore call as the launch sees it: what its handshakes carry, every tile's obligation, and how the operands are
  dealt to the tiles and collected.
-/
module

public import proofs.«01_k».proof.Proof.Ideal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs as the program's body table passes them
local notation "pW" => (Memref.whole Cert.KernelIdeal.main_v0_scv : Memref Cert.KernelIdeal.sig Kind.scVector Space.hbm Cert.KernelIdeal.S20971520 EltTy.f32)
local notation "tW" => (Memref.whole Cert.KernelIdeal.main_v1_scv : Memref Cert.KernelIdeal.sig Kind.scVector Space.hbm Cert.KernelIdeal.S4194304 EltTy.i32)
local notation "oW" => (Memref.whole Cert.KernelIdeal.main_v2_scv : Memref Cert.KernelIdeal.sig Kind.scVector Space.hbm Cert.KernelIdeal.S12800 EltTy.f32)
local notation "aP" => (Memref.whole Cert.KernelIdeal.cc0_scratch0 : Memref Cert.KernelIdeal.sig Kind.scVector Space.vmem Cert.KernelIdeal.S40960 EltTy.f32)
local notation "aT" => (Memref.whole Cert.KernelIdeal.cc0_scratch1 : Memref Cert.KernelIdeal.sig Kind.scVector Space.vmem Cert.KernelIdeal.S8192 EltTy.i32)
local notation "aC" => (Memref.whole Cert.KernelIdeal.cc0_scratch2 : Memref Cert.KernelIdeal.sig Kind.scVector Space.vmem Cert.KernelIdeal.S400 EltTy.f32)

/-! ## The result's words, tile by tile -/

/-- The words of the result that tile number `w` writes. -/
def tileWords (w : ℕ) : Finset S12800.Idx := Finset.univ.filter fun j => (j 0).val / 400 = w

/-- The words that the tiles of SparseCore `c` write. -/
def coreWords (c : ℕ) : Finset S12800.Idx := Finset.univ.filter fun j => (j 0).val / 400 % 2 = c

/-- The two SparseCores' words are disjoint. -/
theorem coreWords_disjoint : ∀ c ∈ (Finset.univ : Finset (Fin 2)), ∀ c' ∈ (Finset.univ : Finset (Fin 2)), c ≠ c' →
    Disjoint (coreWords c.val) (coreWords c'.val) := fun c _ c' _ h =>
  Finset.disjoint_left.mpr fun j h1 h2 =>
    h (Fin.ext ((Finset.mem_filter.mp h1).2.symm.trans (Finset.mem_filter.mp h2).2))

/-- The two SparseCores' words are all the words. -/
theorem coreWords_cover : (Finset.univ : Finset (Fin 2)).biUnion (fun c => coreWords c.val) = Finset.univ :=
  Finset.eq_univ_of_forall fun j => Finset.mem_biUnion.mpr
    ⟨⟨(j 0).val / 400 % 2, Nat.mod_lt _ (by decide)⟩, Finset.mem_univ _, Finset.mem_filter.mpr ⟨Finset.mem_univ _, rfl⟩⟩

/-- The words of a SparseCore's tiles are disjoint. -/
theorem tileWords_disjoint (c : ℕ) : ∀ i ∈ (Finset.univ : Finset (Fin 16)), ∀ i' ∈ (Finset.univ : Finset (Fin 16)), i ≠ i' →
    Disjoint (tileWords (2 * i.val + c)) (tileWords (2 * i'.val + c)) := fun i _ i' _ h =>
  Finset.disjoint_left.mpr fun j h1 h2 => h (Fin.ext (by
    have e1 := (Finset.mem_filter.mp h1).2
    have e2 := (Finset.mem_filter.mp h2).2
    omega))

/-- The words of a SparseCore's tiles are the SparseCore's words. -/
theorem tileWords_cover (c : ℕ) (hc : c < 2) :
    (Finset.univ : Finset (Fin 16)).biUnion (fun i => tileWords (2 * i.val + c)) = coreWords c := by
  ext j
  have hj : (j 0).val < 12800 := (j 0).isLt
  constructor
  · intro h
    obtain ⟨i, -, hi⟩ := Finset.mem_biUnion.mp h
    have e := (Finset.mem_filter.mp hi).2
    exact Finset.mem_filter.mpr ⟨Finset.mem_univ _, by omega⟩
  · intro h
    have e := (Finset.mem_filter.mp h).2
    exact Finset.mem_biUnion.mpr ⟨⟨(j 0).val / 400 / 2, by omega⟩, Finset.mem_univ _,
      Finset.mem_filter.mpr ⟨Finset.mem_univ _, by show _ = 2 * ((j 0).val / 400 / 2) + c; omega⟩⟩

/-- The slice that a tile's copy names is its words. -/
theorem oK_set (L : grid0.Coords) : (oK L).view.set = tileWords (wid L) := by
  have e0 : k0_off6 L 0 = 400 * wid L := by rw [off6_eq]; rfl
  ext j
  rw [show (oK L).view.set = (Rect.unit (s := S12800) (k0_off6 L) S400.size (k0_off6_inb L)).set from View.set_slice_whole _ _]
  constructor
  · intro h
    rw [← Rect.map_emb_univ] at h
    obtain ⟨x, -, rfl⟩ := Finset.mem_map.mp h
    have hx : (x 0).val < 400 := (x 0).isLt
    refine Finset.mem_filter.mpr ⟨Finset.mem_univ _, ?_⟩
    show (k0_off6 L 0 + 1 * (x 0).val) / 400 = wid L
    omega
  · intro h
    have e := (Finset.mem_filter.mp h).2
    rw [← Rect.map_emb_univ]
    refine Finset.mem_map.mpr ⟨fun a => ⟨(j 0).val % 400, by
      have ha : a = 0 := Subsingleton.elim (α := Fin 1) a 0
      subst ha
      exact Nat.mod_lt _ (by decide)⟩, Finset.mem_univ _, funext fun a => Fin.ext ?_⟩
    have ha : a = 0 := Subsingleton.elim (α := Fin 1) a 0
    subst ha
    show k0_off6 L 0 + 1 * ((j 0).val % 400) = (j 0).val
    omega

variable [FloatOps F]

/-! ## What the handshakes carry -/

section Payloads

variable (mp : Dev nD → Vec F S20971520 .f32) (mt : Dev nD → Vec F S4194304 .i32) (fo : Dev nD → Vec F S12800 .f32)

/-- The share of an array that SparseCore `c`'s sequencer holds. -/
abbrev cShare (c : ℕ) : PosShare TreeShare := shareTokN fullShare c
/-- The share of an array that tile `i` of SparseCore `c` holds. -/
abbrev tShare (c i : ℕ) : PosShare TreeShare := shareTokN (cShare c) i

/-- What SparseCore `c` holds in the call: shares of the prediction and the target, its tiles' words of the result at `g`. -/
def corePts (d : Dev nD) (c : ℕ) (g : Vec F S12800 .f32) : sProp 𝕄 :=
  iprop((pLoc d ↦{cShare c} mp d) ∗ (tLoc d ↦{cShare c} mt d) ∗ (oLoc d ↦[coreWords c]{fullShare} g))

/-- What tile `i` of SparseCore `c` holds. -/
def tilePts (d : Dev nD) (c i : ℕ) (g : Vec F S12800 .f32) : sProp 𝕄 :=
  iprop((pLoc d ↦{tShare c i} mp d) ∗ (tLoc d ↦{tShare c i} mt d) ∗ (oLoc d ↦[tileWords (2 * i + c)]{fullShare} g))

/-- The call's payloads: out with the result at anything given, back with every tile's counters in it. -/
def P : (K (F := F)).Pay (nD := nD) (Val := Elt F) (Name := ℕ) (U := UU) where
  st := fun _ d c => corePts mp mt d c.val (fo d)
  dn := fun _ d c => corePts mp mt d c.val (counts (mp d) (mt d))
  go := fun _ d c i => tilePts mp mt d c.val i.val (fo d)
  td := fun _ d c i => tilePts mp mt d c.val i.val (counts (mp d) (mt d))
  x := fun _ _ => iprop(emp)

/-- The payloads can be kept in an invariant. -/
instance P_storable : (P (F := F) mp mt fo).IsStorable where
  st _ _ _ := by unfold P corePts; infer_instance
  dn _ _ _ := by unfold P corePts; infer_instance
  go _ _ _ _ := by unfold P tilePts; infer_instance
  td _ _ _ _ := by unfold P tilePts; infer_instance

/-! ## Every tile's obligation -/

/-- The kernel's task on one tile, from what the launch hands it to what it hands back. -/
theorem tile_task (d : Dev nD) (L : grid0.Coords) (hl : ∀ d, LabelsOk (mt d))
    (O : CellTallies nD τ sig (HIx 1)) (W : Waits sig (HIx 1)) (hO : ∀ g, O g none = 0) :
    iprop((levAts (K (F := F)).L (K (F := F)).lev : sProp 𝕄) ∗ emp ∗ tilePts mp mt d (L 0).val (L 1).val (fo d)
        ∗ scopedBufs (vt d L) ∗ scopedSems0 (vt d L) ∗ owes (vt d L) O W)
      ⊢ wp frame (wpE (defs₀ (F := F)) 𝒱₀ (vt d L) none) Set.univ
          (cc0_body L pW (Memref.isWhole_whole _) tW (Memref.isWhole_whole _) oW (Memref.isWhole_whole _)
            aP (Memref.isWhole_whole _) aT (Memref.isWhole_whole _) aC (Memref.isWhole_whole _)
            cc0_scoped0 cc0_scoped1 cc0_scoped2 cc0_scoped3 cc0_scoped4 cc0_scoped5 cc0_scoped6)
          fun _ => iprop(tilePts mp mt d (L 0).val (L 1).val (counts (mp d) (mt d)) ∗ scopedBufs (vt d L) ∗ scopedSems0 (vt d L)
            ∗ ∃ W', ⌜∀ p ∈ W', p ∈ W ∨ p.2 = none⌝ ∗ owes (vt d L) O W') := by
  rw [(K (F := F)).scopedBufs_V facts d (cV L) (jV L), SparseCore.Cfg.scopedSems0_V (Val := Elt F) d (cV L) (jV L), ownSems0_V, ownBufs_V]
  unfold tilePts
  rw [show 2 * (L 1).val + (L 0).val = wid L from rfl, ← oK_set L]
  iintro ⟨#Hlv, -, Hgo, ⟨⟨H0, H1, H2⟩, Hb⟩, ⟨Hs, Hss⟩, HO⟩
  iapply (wp_wand_r Idealize.ShloMosaic.frame (wpE (defs₀ (F := F)) 𝒱₀ (vt d L) none) Set.univ)
  isplitl [Hgo H0 H1 H2 Hs HO]
  · iapply (tile_run d L (mp d) (mt d) (tShare (L 0).val (L 1).val) (hl d) O W hO (fo d))
    isplitr; · iexact Hlv
    isplitl [Hgo]; · iexact Hgo
    isplitl [H0]; · iexact H0
    isplitl [H1]; · iexact H1
    isplitl [H2]; · iexact H2
    isplitl [Hs] <;> iassumption
  iintro %_ ⟨Htd, Hbs, Hsems, %W', %hW', HO⟩
  isplitl [Htd]; · iexact Htd
  isplitl [Hbs Hb]; · isplitl [Hbs] <;> iassumption
  isplitl [Hsems Hss]; · isplitl [Hsems] <;> iassumption
  iexists W'; isplitr
  · ipureintro; exact hW'
  · iexact HO

/-- The waits of a task, as the call's obligation allows them. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).elim Or.inl fun h => Or.inr (Or.inl h)
  · iexact HO

/-- A tile's place in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel's body at the tile's place in the grid. -/
theorem defs₀_vector (c : Fin τ.nSC) (s : Fin τ.nSub) :
    defs₀ (F := F) (.scVector c s) 0 ()
      = SparseCore.onTile hcore0 hsub0 (fun c s => cc0_body (coordsV c s)
          pW (Memref.isWhole_whole _) tW (Memref.isWhole_whole _) oW (Memref.isWhole_whole _)
          aP (Memref.isWhole_whole _) aT (Memref.isWhole_whole _) aC (Memref.isWhole_whole _)
          cc0_scoped0 cc0_scoped1 cc0_scoped2 cc0_scoped3 cc0_scoped4 cc0_scoped5 cc0_scoped6) ⟨⟩ c s := rfl

/-- Every tile's obligation to the call. -/
theorem tileObl (hl : ∀ d, LabelsOk (mt d)) : (K (F := F)).TileObl (D (F := F)) 𝒱 (P mp mt fo) v₀ 0 := by
  intro d c i O W hO _ _
  simp only [show (P mp mt fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_task mp mt fo d (coordsV ⟨_, hc.1⟩ ⟨_, hc.2⟩) hl O W hO
  refine BI.Entails.trans ?_ ((BI.Entails.trans h) ?_)
  · exact BI.Entails.refl _
  · refine wp_mono frame _ _ fun _ => ?_
    exact waits_weaken

/-! ## Dealing the operands to the tiles -/

/-- Words of the result over the tiles of a SparseCore. -/
theorem words_tiles (d : Dev nD) (c : ℕ) (hc : c < 2) (g : Vec F S12800 .f32) :
    (oLoc d ↦[coreWords c]{fullShare} g : sProp 𝕄)
      = bigSep Finset.univ fun i : Fin 16 => oLoc d ↦[tileWords (2 * i.val + c)]{fullShare} g := by
  have h := pointsTo_biUnion (Name := ℕ) (U := UU) (Lvl := ℕ) (Ix := HIx 1) (q := fullShare) (f := g) Finset.univ (ℓ := oLoc d)
    (fun i : Fin 16 => tileWords (2 * i.val + c)) (tileWords_disjoint c)
  rw [tileWords_cover c hc] at h
  exact h

/-- The tiles' parts, conjoined: the shares of the two operands, and the SparseCore's words of the result. -/
theorem tiles_eq (d : Dev nD) (c : ℕ) (hc : c < 2) (g : Vec F S12800 .f32) :
    (bigSep Finset.univ fun i : Fin 16 => tilePts mp mt d c i.val g)
      = iprop((bigSep Finset.univ fun i : Fin 16 => pLoc d ↦{tShare c i.val} mp d)
          ∗ (bigSep Finset.univ fun i : Fin 16 => tLoc d ↦{tShare c i.val} mt d)
          ∗ (oLoc d ↦[coreWords c]{fullShare} g)) := by
  unfold tilePts
  rw [bigSep_sep', bigSep_sep', words_tiles d c hc]

/-- What a SparseCore holds in the call splits into what its tiles hold, and is put together again from what they
give back. -/
theorem vecSplit : (K (F := F)).VecSplit' (P mp mt fo) 0 := by
  intro d c
  have hc : c.val < 2 := c.isLt
  show corePts mp mt d c.val (fo d) ⊢ |={Set.univ}=> iprop(
      (bigSep (Finset.univ : Finset (Fin 16)) fun i => tilePts mp mt d c.val i.val (fo d))
      ∗ ((bigSep (Finset.univ : Finset (Fin 16)) fun i => tilePts mp mt d c.val i.val (counts (mp d) (mt d)))
          -∗ corePts mp mt d c.val (counts (mp d) (mt d))))
  rw [tiles_eq mp mt d c.val hc, tiles_eq mp mt d c.val hc]
  unfold corePts
  iintro ⟨Hp, Ht, Ho⟩
  ihave Hp' := (pointsTo_toks_split (cShare c.val) 16) $$ Hp
  ihave Ht' := (pointsTo_toks_split (cShare c.val) 16) $$ Ht
  icases Hp' with ⟨Hpr, Hp⟩
  icases Ht' with ⟨Htr, Ht⟩
  imodintro
  isplitl [Hp Ht Ho]
  · isplitl [Hp]; · iexact Hp
    isplitl [Ht] <;> iassumption
  iintro ⟨Hp, Ht, Ho⟩
  isplitl [Hp Hpr]
  · iapply (pointsTo_toks_join (cShare c.val) 16); isplitl [Hpr] <;> iassumption
  isplitl [Ht Htr]
  · iapply (pointsTo_toks_join (cShare c.val) 16); isplitl [Htr] <;> iassumption
  iexact Ho

/-- The SparseCores' parts, conjoined: the shares of the two operands and the result whole. -/
theorem cores_eq (d : Dev nD) (g : Vec F S12800 .f32) :
    (bigSep Finset.univ fun c : Fin 2 => corePts mp mt d c.val g)
      = iprop((bigSep Finset.univ fun c : Fin 2 => pLoc d ↦{cShare c.val} mp d)
          ∗ (bigSep Finset.univ fun c : Fin 2 => tLoc d ↦{cShare c.val} mt d)
          ∗ (oLoc d ↦{fullShare} g)) := by
  unfold corePts
  rw [bigSep_sep', bigSep_sep',
    ← pointsTo_biUnion Finset.univ (ℓ := oLoc d) (fun c : Fin 2 => coreWords c.val) coreWords_disjoint]
  rw [coreWords_cover]

/-- What the call takes: the operands whole and the result at what it held, the operands' remaining shares kept. -/
theorem st_intro (d : Dev nD) :
    iprop((pLoc d ↦{fullShare} mp d) ∗ (tLoc d ↦{fullShare} mt d) ∗ (oLoc d ↦{fullShare} fo d) : sProp 𝕄)
      ⊢ iprop((bigSep Finset.univ fun c : Fin ((K (F := F)).nCore 0) => (P mp mt fo).st 0 d c)
          ∗ (pLoc d ↦{shareDrop fullShare 2} mp d) ∗ (tLoc d ↦{shareDrop fullShare 2} mt d)) := by
  show _ ⊢ iprop((bigSep (Finset.univ : Finset (Fin 2)) fun c => corePts mp mt d c.val (fo d)) ∗ _)
  rw [cores_eq]
  iintro ⟨Hp, Ht, Ho⟩
  ihave Hp' := (pointsTo_toks_split fullShare 2) $$ Hp
  ihave Ht' := (pointsTo_toks_split fullShare 2) $$ Ht
  icases Hp' with ⟨Hpr, Hp⟩
  icases Ht' with ⟨Htr, Ht⟩
  isplitl [Hp Ht Ho]
  · isplitl [Hp]; · iexact Hp
    isplitl [Ht] <;> iassumption
  isplitl [Hpr] <;> iassumption

/-- What the call gives back: the result whole at the tiles' counters. -/
theorem dn_elim (d : Dev nD) :
    (bigSep Finset.univ fun c : Fin ((K (F := F)).nCore 0) => (P mp mt fo).dn 0 d c)
      ⊢ (oLoc d ↦{fullShare} counts (mp d) (mt d) : sProp 𝕄) := by
  show (bigSep (Finset.univ : Finset (Fin 2)) fun c => corePts mp mt d c.val (counts (mp d) (mt d))) ⊢ _
  rw [cores_eq]
  iintro ⟨-, -, Ho⟩
  iexact Ho

end Payloads

end Cert.Proof.KernelIdeal

end
-- ==== Proof.Ideal.Finish.lean ====
/-
  The TensorCore kernel that turns the counts into the five scores: its body run, and its pipelined region over the two
  arrays it reads and writes.
-/
module

public import proofs.«01_k».proof.Proof.Ideal.Base
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit.Geometry

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The kernel's result -/

/-- The kernel's result over the counts, in the payloads of the kernel's four parts. -/
def finish (x : Vec F S32x400 .f32) : Vec F S1x128 .f32 :=
  let row := k1_pay7 k1_pay4 k1_pay5 k1_pay6 0#32
  let col := k1_pay8 k1_pay3 k1_pay4 k1_pay5 k1_pay6 0#32
  let lane : IVec S1x128 32 := iota .tc S1x128 32 [1] iota_S1x128_d1_w32
  let z : FVec F S32x400 .f32 := k1_pay9
  let v := k1_pay2 x
  k1_pay1 v row col lane z
    (k1_pay16 v k1_pay3 row col lane z
      (k1_pay12 v row col lane z (k1_pay10 v k1_pay3 k1_pay4 k1_pay5 k1_pay6 0#32) (k1_pay11 v k1_pay3))
      (k1_pay13 v k1_pay3 z) (k1_pay14 v row z) (k1_pay15 v col z))
    (k1_pay17 v k1_pay3 z)

local notation "stI" => (Memref.whole Cert.KernelIdeal.cc1_stg0_0 : Memref Cert.KernelIdeal.sig Kind.tc Space.vmem Cert.KernelIdeal.S32x400 EltTy.f32)
local notation "stO" => (Memref.whole Cert.KernelIdeal.cc1_stg1_0 : Memref Cert.KernelIdeal.sig Kind.tc Space.vmem Cert.KernelIdeal.S1x128 EltTy.f32)

/-- The load reads the counts whole. -/
theorem in_read (x : Vec F S32x400 .f32) :
    View.readAt (Elt F) (stI).view (Rect.unit (s := S32x400) ![0, 0] S32x400.size inb_S32x400_S32x400_0_0).toLoadRect x = x :=
  Memref.readAt_unit_zero (Elt F) cc1_stg0_0 (funext fun a => by fin_cases a <;> rfl) inb_S32x400_S32x400_0_0 x

/-- The store writes the result whole. -/
theorem out_write (c : Dev nD) (y w : Vec F S1x128 .f32) :
    ((stO).view.loc (c : Thread nD τ) ↦{fullShare}
        ((stO).view.slice (Rect.unit (s := S1x128) ![0, 0] S1x128.size inb_S1x128_S1x128_0_0)).write (Elt F) y w Finset.univ : sProp 𝕄)
      = ((stO).view.loc (c : Thread nD τ) ↦{fullShare} w) := by
  have h := Memref.write_access_unit_zero_univ (Elt F) cc1_stg1_0 (off := ![0, 0]) (funext fun a => by fin_cases a <;> rfl) inb_S1x128_S1x128_0_0 y w
  exact congrArg (fun g => ((stO).view.loc (c : Thread nD τ) ↦{fullShare} g : sProp 𝕄)) h

/-- From both staging buffers held whole the kernel runs to its return, the counts' as it was and the result's at the
    kernel's result. -/
theorem finish_run (c : Dev nD) (x : Vec F S32x400 .f32) (y : Vec F S1x128 .f32) (E : Set ℕ) (Q : PUnit → sProp 𝕄) :
    iprop(((stI).view.loc (c : Thread nD τ) ↦{fullShare} x) ∗ ((stO).view.loc (c : Thread nD τ) ↦{fullShare} y)
        ∗ (iprop(((stI).view.loc (c : Thread nD τ) ↦{fullShare} x) ∗ ((stO).view.loc (c : Thread nD τ) ↦{fullShare} finish x)) -∗ Q ⟨⟩))
      ⊢ wp frame (wpE (defs₀ (F := F)) Variants.none c none) E
          (cc1__finish_kernel stI (Memref.isWhole_whole _) stO (Memref.isWhole_whole _)) Q := by
  rw [cc1__finish_kernel_eq_skeleton]
  unfold cc1__finish_kernel_skel
  rw [k1_part1_eq_skeleton, k1_part2_eq_skeleton, k1_part3_eq_skeleton, k1_part4_eq_skeleton]
  unfold k1_part1_skel k1_part2_skel k1_part3_skel k1_part4_skel
  iintro ⟨H0, H1, Hk⟩
  sl_exec
  rw [show finish_run.sl.v54 = (iota .tc S1x128 32 [1] iota_S1x128_d1_w32 : IVec S1x128 32) from rfl,
    in_read, View.writes_singleton]
  ihave H1 := (Entails.of_eq (out_write c y _)) $$ H1
  sl_step
  iapply Hk
  isplitl [H0]; · iexact H0
  iexact H1

/-! ## The region's proof data -/

section Region

variable (x : Dev nD → Vec F S32x400 .f32) (y : Dev nD → Vec F S1x128 .f32)
-- a bound on the levels of the waits that the TensorCore has recorded before the region
variable (B : ℕ)

/-- The arrays at what they hold on entry; after the body the counts' staging buffer as fetched and the result's at the
    kernel's result; nothing owed; the recorded waits at levels up to the bound. -/
def dat (c : Dev nD) : Dat τ (Elt F) (HIx 1) ℕ UU ℕ cfg1 c where
  A w := match w with
    | ⟨0, _⟩ => x c
    | ⟨1, _⟩ => y c
  after w _ := match w with
    | ⟨0, _⟩ => x c
    | ⟨1, _⟩ => finish (x c)
  Φ _ := iprop(emp)
  q _ := fullShare
  owed _ := 0
  recorded _ := {p | (K (F := F)).lev (T c, p.1) p.2 ≤ B}

/-- The region is admissible. -/
abbrev adm : (p : Fin 1) → (pcfgs (F := F) p).Adm := fun p => (cfgs p).toPCfg_adm

/-- The region's contents, for the program's only region. -/
def pdats : (p : Fin 1) → (c : Dev nD) → Dat τ (Elt F) (HIx 1) ℕ UU ℕ (Pipeline.pin (pcfgs (F := F)) adm p) c
  | ⟨0, _⟩ => fun c => dat x y B c

/-- The counts' staging buffer holds the counts when the body runs. -/
theorem before_in (c : Dev nD) (d : (cfg1.win 0).block.Idx → Elt F (cfg1.win 0).elt) :
    (dat x y B c).before 0 t1_0 d = x c := by
  unfold Dat.before; rw [if_pos (by decide)]
  show ((cfg1.win 0).blk t1_0).view.read (Elt F) (x c) = x c
  funext j
  show x c (((cfg1.win 0).rect t1_0).emb j) = x c j
  refine congrArg (x c) (funext fun a => Fin.ext ?_)
  rw [Window.rect_emb_val_of_index_zero _ _ _ (by fin_cases a <;> rfl)]

/-- The finishing kernel's body takes the counts' and the scores' staging buffers from what the region hands it to
what it takes back. -/
theorem body_obligation (c : Dev nD) : BodyObligation (dat x y B c) (defs₀ (F := F)) 𝒱₀ none Set.univ := fun t => by
  obtain rfl := fin_N1 t
  rw [bigSep_W1, bigSep_W1]
  simp only [owns_whole_eq]
  rw [show (dat x y B c).Φ t1_0.castSucc = iprop(emp) from rfl, show (dat x y B c).Φ t1_0.succ = iprop(emp) from rfl,
    show (dat x y B c).owesAt none t1_0.succ = (dat x y B c).owesAt none t1_0.castSucc from rfl]
  iintro ⟨-, Howes, ⟨%d0, %f0, %hf0, H0⟩, ⟨%d1, %f1, -, H1⟩⟩
  rw [before_in] at hf0
  subst hf0
  iapply (finish_run c (x c) f1 Set.univ _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [dat]
  iexists _; isplitr; swap; (· iexact H1); ipureintro; dsimp only [dat]

/-- After the region the scores' array holds the finishing kernel's result. -/
theorem out_final (c : Dev nD) : (dat x y B c).arrAt 1 cfg1.N = finish (x c) :=
  (dat x y B c).arrAt_eq_of_after_last 1 t1_0 (by decide +kernel) (finish (x c)) (fun j => rfl)

/-- The region's two arrays, whole. -/
theorem arrays_eq (c : Dev nD) (A : (w : Fin cfg1.W) → Buf (Elt F) ((cfg1.win w).arr.view.loc (c.tc : Thread nD τ))) :
    ((dat x y B c).arrays A : sProp 𝕄)
      = iprop((((c : Thread nD τ).loc main_v3) ↦{fullShare} A 0) ∗ (((c : Thread nD τ).loc main_v4) ↦{fullShare} A 1)) := by
  unfold Pipeline.Dat.arrays
  rw [bigSep_W1, (dat x y B c).share_full (fun _ => rfl), (dat x y B c).share_full (fun _ => rfl),
    (arr_whole1 0).set_eq_univ, (arr_whole1 1).set_eq_univ]

set_option backward.isDefEq.respectTransparency.types false in
/-- The region, from the two arrays and what the TensorCore has recorded of its waits, to the result's array at the
    kernel's result. -/
def reg : Pipeline.RegionSeg (pcfgs (F := F)) adm (pdats x y B) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation x y B c).loose
  hwaits := Pipeline.hwaits_of_owed_zero _ _ _ _ _ _ 0 fun _ _ => rfl
  pre c := iprop((((c : Thread nD τ).loc main_v3) ↦{fullShare} x c) ∗ (((c : Thread nD τ).loc main_v4) ↦{fullShare} y c)
    ∗ ∃ W, ⌜(K (F := F)).WBelow (T c) W B⌝ ∗ owes (c : Thread nD τ) (0 : CellTallies nD τ sig (HIx 1)) W)
  post c := iprop((((c : Thread nD τ).loc main_v3) ↦{fullShare} x c) ∗ (((c : Thread nD τ).loc main_v4) ↦{fullShare} finish (x c))
    ∗ ∃ W, ⌜(K (F := F)).WBelow (T c) W B⌝ ∗ owes (c : Thread nD τ) (0 : CellTallies nD τ sig (HIx 1)) W)
  X _ := BI.emp
  Y _ := BI.emp
  Z _ := BI.emp
  hentry c := by
    rw [Pipeline.ownSems0_none]
    iintro ⟨⟨Hx, Hy, %W, %hW, HO⟩, -, -⟩
    imodintro
    isplitl [Hx Hy]
    · iapply (Entails.of_eq (arrays_eq x y B c ((dat x y B c).arrAt · 0)).symm)
      isplitl [Hx]
      · iexact Hx
      · iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats x y B 0 c).Φ 0 = iprop(emp) from rfl, scopedRest1_eq]
    iintro -; iempintro
  hout c := by
    rw [Pipeline.ownSems0_none, show (pdats x y B 0 c).Φ (Fin.last _) = iprop(emp) from rfl, scopedRest1_eq]
    iintro -
    isplitr; · iempintro
    isplitr; · iempintro
    iempintro
  hexit c := by
    refine (sep_mono (Entails.of_eq (arrays_eq x y B c ((dat x y B c).arrAt · cfg1.N))) .rfl).trans ?_
    iintro ⟨⟨Hx, Hy⟩, HO, -, -⟩
    ihave Hx := (Entails.of_eq (congrArg (fun g : Vec F S32x400 .f32 => (((c : Thread nD τ).loc main_v3) ↦{fullShare} g : sProp 𝕄)) ((dat x y B c).arrAt_in 0 rfl cfg1.N))) $$ Hx
    ihave Hy := (Entails.of_eq (congrArg (fun g : Vec F S1x128 .f32 => (((c : Thread nD τ).loc main_v4) ↦{fullShare} g : sProp 𝕄)) (out_final x y B c))) $$ Hy
    imodintro
    isplitl [Hx]; · iexact Hx
    isplitl [Hy]; · iexact Hy
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

end Region

end Cert.Proof.KernelIdeal

end
-- ==== Proof.Ideal.Main.lean ====
/-
  The program's run: from the launch state, on a target whose labels are in range, every device ends with its scores at
  the stated value, its arguments as they were and every semaphore at zero.
-/
module

public import proofs.«01_k».proof.Proof.Ideal.Launch
public import proofs.«01_k».proof.Proof.Ideal.Finish
public import proofs.«01_k».proof.Proof.Labels

@[expose] public section

noncomputable section

namespace Cert.Proof.KernelIdeal

open Cert.KernelIdeal Cert.KernelIdeal.Gen
open Idealize.ShloMosaic Idealize.ShloMosaic.TcCoe
open Idealize.ShloMosaic.SparseCore (S V)
open Idealize.ShloMosaic.SparseCore.Cfg (HIx)
open Idealize.ShloMosaic.Transfers (shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.Pipeline (cellOf cellsGhost toksInit launchToks)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

/-- The predictions as one row. -/
def predRow (d : Dev nD) : Vec F S20971520 .f32 :=
  shapeCast S20971520 (m ((SparseCore.T d).loc main_arg0) : Vec F S2x5x128x128x128 .f32) shapeCasts_S2x5x128x128x128_S20971520
/-- The targets as one row. -/
def targetRow (d : Dev nD) : Vec F S4194304 .i32 :=
  shapeCast S4194304 (m ((SparseCore.T d).loc main_arg1) : Vec F S2x128x128x128 .i32) shapeCasts_S2x128x128x128_S4194304
/-- The tiles' counts, a row a tile. -/
def countRows (d : Dev nD) : Vec F S32x400 .f32 :=
  shapeCast S32x400 (counts (predRow m d) (targetRow m d)) shapeCasts_S12800_S32x400
/-- The scores: the first five lanes of the finishing kernel's result. -/
def scores (d : Dev nD) : Vec F S5 .f32 :=
  shapeCast S5 (extractStridedSlice S1x5 ![0, 0] (finish (countRows m d)) slices_S1x128_S1x5_0_0) shapeCasts_S1x5_S5

/-- The labels are in range on every device. -/
def InRange : Prop := ∀ d, LabelsOk (targetRow (F := F) m d)

/-- The launch's three arrays at the launch: both rows and the counts' array, whatever it holds. -/
def outAt (d : Dev nD) : Vec F S12800 .f32 := m ((SparseCore.T d).loc main_v2)

/-- The call's payloads at the launch's arrays. -/
abbrev PP := P (predRow m) (targetRow m) (outAt m)

/-! ## The launch's ghost state -/

/-- The ghost state at the launch. -/
def u₀ : UU := (initOf (K (F := F)).hsCells (K (F := F)).hsToks,
  (initOf (Pipeline.cells (Pipeline.pin (pcfgs (F := F)) adm) cellOf_inj) (launchToks (Pipeline.pin (pcfgs (F := F)) adm) cellOf_inj), 1))

/-- What the finishing kernel's region takes of it. -/
abbrev G (d : Dev nD) : sProp 𝕄 :=
  iprop(cellsGhost (Pipeline.pin (pcfgs (F := F)) adm) EP 0 d ∗ toksInit (Pipeline.pin (pcfgs (F := F)) adm) EP 0 d)

/-- Nothing, however often, is nothing. -/
theorem bigSep_emp' {I : Type} (s : Finset I) : (bigSep s fun _ => iprop(emp)) = (iprop(emp) : sProp 𝕄) := bigSep_emp_const s

/-- The right factor of the ghost state splits into the region's rounds and the counters. -/
theorem split_ghost (a : UP) (b : Counters) :
    (BI.own ((embR : Emb (UP × Counters) 𝕄) (a, b)) : sProp 𝕄) ⊢ iprop(BI.own ((EP : Emb UP 𝕄) a)
      ∗ BI.own (((Emb.inr : Emb Counters (UP × Counters)).trans (embR : Emb (UP × Counters) 𝕄)) b)) :=
  own_pair_emb embR a b

/-- The program has one region: what the regions hold over the devices is what that one holds. -/
theorem region_ghost (Φ : Fin 1 → Dev nD → sProp 𝕄) :
    (bigSep Finset.univ fun c : Dev nD => bigSep Finset.univ fun p : Fin 1 => Φ p c) = bigSep Finset.univ fun c => Φ 0 c :=
  bigSep_congr fun c _ => by rw [show (Finset.univ : Finset (Fin 1)) = {0} from rfl, bigSep_singleton]

/-- The ghost state at the launch splits into the handshakes' rounds and what the region takes; the tiles need none
of it. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR' := (split_ghost _ _) $$ HR
  icases HR' with ⟨HP, -⟩
  imod (Pipeline.fund_ghost (Pipeline.pin (pcfgs (F := F)) adm) EP cellOf_inj) $$ HP with ⟨HC, HT⟩
  imodintro
  isplitl [HH]; · iexact HH
  isplitl [HC HT]
  · unfold G
    rw [bigSep_sep']
    isplitl [HC]
    · iapply (Entails.of_eq (region_ghost fun p c => cellsGhost (Pipeline.pin (pcfgs (F := F)) adm) EP p c)) $$ HC
    · iapply (Entails.of_eq (region_ghost fun p c => toksInit (Pipeline.pin (pcfgs (F := F)) adm) EP p c)) $$ HT
  rw [show (bigSep Finset.univ fun thr : Thread nD τ => bigSep Finset.univ fun q : Fin 1 => (PP m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## The host operations -/

/-- An operation that reads one array and writes another, run: the one kept, the other at its value. -/
theorem wp_step (d : Dev nD) (V₀ : Valuation τ sig (Elt F)) (op : HloOp τ sig (Elt F)) (x y : Ref sig .tc)
    (hne : (Proc.devRef .tc x : DevRef τ sig) ≠ Proc.devRef .tc y)
    (hb : op.bufs = {Proc.devRef .tc x, Proc.devRef .tc y}) (hw : op.writes = {Proc.devRef .tc y}) (hf : op.fresh = ∅)
    (f : (Proc.devRef .tc x : DevRef τ sig).ty.Contents (Elt F)) (g h : (Proc.devRef .tc y : DevRef τ sig).ty.Contents (Elt F))
    (hr : ∀ V : Valuation τ sig (Elt F), V (Proc.devRef .tc x) = f → op.result V (Proc.devRef .tc y) = h)
    (hp) {α : Type} (k) (Q : α → sProp 𝕄) :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f) ∗ ((SparseCore.T d).loc y ↦{fullShare} h))
            -∗ wp frame (wpE ((K (F := F)).defs (D (F := F))) 𝒱 (SparseCore.T d) none) Set.univ k Q)
          -∗ wp frame (wpE ((K (F := F)).defs (D (F := F))) 𝒱 (SparseCore.T d) none) Set.univ (hlo hp op fun _ => k) Q) := by
  have hx : (Proc.devRef .tc x : DevRef τ sig) ∉ op.writes := by rw [hw]; simpa using hne
  have hV : ∀ V : Valuation τ sig (Elt F), (held (SparseCore.T d) {Proc.devRef .tc x, Proc.devRef .tc y} V : sProp 𝕄)
      = iprop(((SparseCore.T d).loc x ↦{fullShare} V (Proc.devRef .tc x)) ∗ ((SparseCore.T d).loc y ↦{fullShare} V (Proc.devRef .tc y))) := by
    intro V
    unfold held
    rw [SparseCore.bigSep_insert' (by simpa using hne), bigSep_singleton]
  let V : Valuation τ sig (Elt F) := Function.update (Function.update V₀ (Proc.devRef .tc y) g) (Proc.devRef .tc x) f
  have hVx : V (Proc.devRef .tc x) = f := Function.update_self _ _ _
  have hVy : V (Proc.devRef .tc y) = g := (Function.update_of_ne hne.symm _ _).trans (Function.update_self _ _ _)
  have h0 := hV V
  rw [hVx, hVy] at h0
  have h1 := hV (op.result V)
  rw [hr V hVx, op.result_of_not_mem V hx, hVx] at h1
  rw [← h0, ← h1]
  have hsub : op.bufs ⊆ ({Proc.devRef .tc x, Proc.devRef .tc y} : Finset (DevRef τ sig)) := hb.le
  exact wp_hlo_within (defs := (K (F := F)).defs (D (F := F))) 𝒱 (SparseCore.T d) none Set.univ (op := op) (S := {Proc.devRef .tc x, Proc.devRef .tc y}) hsub (V := V)
    (hp := hp) (k := fun _ => k) (Q := Q) (hf := hf)

/-! ## @main on the TensorCore -/

/-- The TensorCore's nine arrays. -/
theorem unscoped_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1) ∗ ((SparseCore.T d).loc main_v0 ↦{fullShare} W main_v0)
      ∗ ((SparseCore.T d).loc main_v1 ↦{fullShare} W main_v1) ∗ ((SparseCore.T d).loc main_v2 ↦{fullShare} W main_v2)
      ∗ ((SparseCore.T d).loc main_v3 ↦{fullShare} W main_v3) ∗ ((SparseCore.T d).loc main_v4 ↦{fullShare} W main_v4)
      ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped)
      = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- What @main leaves the claims: the arguments as they were and the scores. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_v6 ↦{fullShare} scores m d))

/-- The region's entry, lifted to the program that has the SparseCore call too. -/
theorem lift_entry : SparseCore.liftProg (Q := 1) (Prog.lift (.customCall (Pipeline.entry 0) ()) : Prog (TpuEff nD τ sig (Elt F) (ΛP (F := F)) .tc) PUnit)
    = Prog.lift (.customCall (SparseCore.inner (Pipeline.entry 0)) ()) := rfl

/-- The finishing kernel's region, entered by the TensorCore and left, in the program without the SparseCore call. -/
theorem region_inner (B : ℕ) (d : Dev nD) (x : Dev nD → Vec F S32x400 .f32) (y : Dev nD → Vec F S1x128 .f32) (Q : PUnit → sProp 𝕄) :
    iprop(boundary (SparseCore.T d) ∗ (reg x y B).pre d ∗ levAts (K (F := F)).L (K (F := F)).lev ∗ G d
        ∗ (iprop(boundary (SparseCore.T d) ∗ (reg x y B).post d) -∗ |={Set.univ}=> Q ⟨⟩))
      ⊢ wp frame (wpE (D (F := F)) 𝒱 (SparseCore.T d) none) Set.univ (Prog.lift (.customCall (Pipeline.entry 0) ())) Q := by
  iintro ⟨Hb, Hpre, HL, ⟨HG, HT⟩, Hk⟩
  iapply (Pipeline.RegionSeg.wp (pcfgs (F := F)) adm (pdats x y B) none cellOf_inj EP defs₀ 𝒱₀ (K (F := F)).L (K (F := F)).lev
    (reg x y B) d none (fun _ h => nomatch h) (fun u => Prog.ret u) Q)
  isplitl [Hk]
  · iintro H
    rw [wp_ret]
    iapply Hk $$ H
  isplitl [Hb]; · iexact Hb
  isplitl [Hpre]; · iexact Hpre
  isplitl [HL]; · iexact HL
  isplitl [HG]; · iexact HG
  iexact HT

/-- The same in the whole program. -/
theorem region_run (B : ℕ) (d : Dev nD) (x : Dev nD → Vec F S32x400 .f32) (y : Dev nD → Vec F S1x128 .f32) (Q : PUnit → sProp 𝕄) :
    iprop(boundary (SparseCore.T d) ∗ iprop((((d : Thread nD τ).loc main_v3) ↦{fullShare} x d) ∗ (((d : Thread nD τ).loc main_v4) ↦{fullShare} y d)
          ∗ ∃ W, ⌜(K (F := F)).WBelow (SparseCore.T d) W B⌝ ∗ owes (d : Thread nD τ) (0 : CellTallies nD τ sig (HIx 1)) W) ∗ levAts (K (F := F)).L (K (F := F)).lev ∗ G d
        ∗ (iprop(boundary (SparseCore.T d) ∗ iprop((((d : Thread nD τ).loc main_v3) ↦{fullShare} x d) ∗ (((d : Thread nD τ).loc main_v4) ↦{fullShare} finish (x d))
          ∗ ∃ W, ⌜(K (F := F)).WBelow (SparseCore.T d) W B⌝ ∗ owes (d : Thread nD τ) (0 : CellTallies nD τ sig (HIx 1)) W)) -∗ |={Set.univ}=> Q ⟨⟩))
      ⊢ wp frame (wpE ((K (F := F)).defs (D (F := F))) 𝒱 (SparseCore.T d) none) Set.univ
          (Prog.lift (.customCall (SparseCore.inner (Pipeline.entry 0)) ())) Q := by
  rw [← lift_entry]
  exact (region_inner B d x y Q).trans ((K (F := F)).wp_liftProg (D (F := F)) 𝒱 (SparseCore.T d) Set.univ none
    (Prog.lift (.customCall (Pipeline.entry 0) ())) Q)

/-- After the call the TensorCore owes nothing. -/
theorem owes_done (d : Dev nD) (n : ℕ) (hn : 1 ≤ n) (W : Waits sig (HIx 1)) :
    (owes (SparseCore.T d) ((K (F := F)).Otc d n) W : sProp 𝕄) = owes (SparseCore.T d) (0 : CellTallies nD τ sig (HIx 1)) W := by
  rw [(K (F := F)).Otc_end d hn]

/-- The program's main thread: from the launch's buffers it ends with the arguments as they were and the result at
the scores. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨H0, H1, H2, H3, H4, H5, H6, H7, H8⟩, Hts, -⟩, ⟨HG, HT⟩⟩
  -- the two arguments as rows
  iapply (wp_step d (fun b => m (d, b)) (StableHlo.reshape main_arg0 main_v0 (rfl : (.f32 : EltTy) = .f32) shapeCasts_S2x5x128x128x128_S20971520)
    main_arg0 main_v0 (by decide) rfl rfl rfl _ _ (predRow m d) (fun V e => by rw [reshape_result', e]; rfl) _ _ _) $$ [Hb H0 H2]
  · isplitl [Hb]; · iexact Hb
    isplitl [H0]; · iexact H0
    iexact H2
  iintro ⟨Hb, H0, H2⟩
  rw [wp_ret]; imodintro
  iapply (wp_step d (fun b => m (d, b)) (StableHlo.reshape main_arg1 main_v1 (rfl : (.i32 : EltTy) = .i32) shapeCasts_S2x128x128x128_S4194304)
    main_arg1 main_v1 (by decide) rfl rfl rfl _ _ (targetRow m d) (fun V e => by rw [reshape_result', e]; rfl) _ _ _) $$ [Hb H1 H3]
  · isplitl [Hb]; · iexact Hb
    isplitl [H1]; · iexact H1
    iexact H3
  iintro ⟨Hb, H1, H3⟩
  rw [wp_ret]; imodintro
  -- the SparseCore call
  ihave Hcall := (st_intro (predRow m) (targetRow m) (outAt m) d) $$ [H2 H3 H4]
  · isplitl [H2]; · iexact H2
    isplitl [H3]; · iexact H3
    iexact H4
  icases Hcall with ⟨Hstart, H2, H3⟩
  iapply ((K (F := F)).wp_run (D (F := F)) 𝒱 (EH := EH) (P := PP m) κ d 0) $$ [-]
  isplitr; · iexact Hctx
  isplitl [Hst]; · iexact Hst
  isplitl [Hstart]; · iexact Hstart
  iintro ⟨Hst, Hdn⟩
  ihave H4 := (dn_elim (predRow m) (targetRow m) (outAt m) d) $$ Hdn
  -- its result a row a tile
  iapply (wp_step d (fun b => m (d, b)) (StableHlo.reshape main_v2 main_v3 (rfl : (.f32 : EltTy) = .f32) shapeCasts_S12800_S32x400)
    main_v2 main_v3 (by decide) rfl rfl rfl _ _ (countRows m d) (fun V e => by rw [reshape_result', e]; rfl) _ _ _) $$ [Hb H4 H5]
  · isplitl [Hb]; · iexact Hb
    isplitl [H4]; · iexact H4
    iexact H5
  iintro ⟨Hb, H4, H5⟩
  rw [wp_ret]; imodintro
  -- the finishing kernel
  unfold SparseCore.Cfg.tcSt
  icases Hst with ⟨⟨%W, %hW, HO⟩, Hrest⟩
  ihave HL := ((K (F := F)).ctx_levAts κ) $$ Hctx
  iapply (region_run (8 * 1) d (countRows m) (fun c => m ((SparseCore.T c).loc main_v4)) _)
  isplitl [Hb]; · iexact Hb
  isplitl [H5 H6 HO]
  · isplitl [H5]; · iexact H5
    isplitl [H6]; · iexact H6
    iexists W; isplitr; · ipureintro; exact hW
    ihave HO := (Entails.of_eq (owes_done d _ (show 1 ≤ (0 : Fin 1).val + 1 from le_rfl) W)) $$ HO
    iexact HO
  isplitl [HL]; · iexact HL
  isplitl [HG HT]
  · isplitl [HG]; · iexact HG
    iexact HT
  iintro ⟨Hb, H5, H6, %W', %hW', HO⟩
  imodintro
  -- the five scores
  iapply (wp_step d (fun b => m (d, b)) (StableHlo.unary main_v4 main_v5 ((extractStridedSlice S1x5 ![0, 0] · slices_S1x128_S1x5_0_0) : (⟨S1x128, .f32⟩ : BufTy).Contents (Elt F) → (⟨S1x5, .f32⟩ : BufTy).Contents (Elt F)))
    main_v4 main_v5 (by decide) rfl rfl rfl _ _ (extractStridedSlice S1x5 ![0, 0] (finish (countRows m d)) slices_S1x128_S1x5_0_0)
    (fun V e => by rw [unary_result', e]) _ _ _) $$ [Hb H6 H7]
  · isplitl [Hb]; · iexact Hb
    isplitl [H6]; · iexact H6
    iexact H7
  iintro ⟨Hb, H6, H7⟩
  rw [wp_ret]; imodintro
  iapply (wp_step d (fun b => m (d, b)) (StableHlo.reshape main_v5 main_v6 (rfl : (.f32 : EltTy) = .f32) shapeCasts_S1x5_S5)
    main_v5 main_v6 (by decide) rfl rfl rfl _ _ (scores m d) (fun V e => by rw [reshape_result', e]; rfl) _ _ _) $$ [Hb H7 H8]
  · isplitl [Hb]; · iexact Hb
    isplitl [H7]; · iexact H7
    iexact H8
  iintro ⟨Hb, H7, H8⟩
  rw [wp_ret]; imodintro; imodintro
  isplitl [HO Hrest]
  · isplitl [HO]
    · iexists W'; isplitr; · ipureintro; exact hW'
      iapply (Entails.of_eq (owes_done d 1 le_rfl W').symm) $$ HO
    iexact Hrest
  isplitl [H0 H1 H8]
  · isplitl [H0]; · iexact H0
    isplitl [H1]; · iexact H1
    iexact H8
  isplitl [Hb] <;> iassumption

/-! ## The program's run -/

/-- What the final memory of a device is to hold. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v6) = scores m d

/-- A whole array owned at some contents is what the memory holds. -/
theorem agree (ℓ : Loc nD τ sig) (f : Buf (Elt F) ℓ) (s' : Phys nD τ sig (Elt F)) :
    iprop((ℓ ↦{fullShare} f) ∗ SI s') ⊢ (iprop(⌜s'.mem.mem ℓ = f⌝) : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What the main thread ends with is true of the memory. -/
theorem hfin (d : Dev nD) (s' : Phys nD τ sig (Elt F)) : iprop(FIN m d ∗ SI s') ⊢ (⌜fq m d s'⌝ : sProp 𝕄) :=
  fun x hx => ⟨((sep_mono_left sep_elim_left).trans (agree _ _ s')) x hx,
    ((sep_mono_left (sep_elim_right.trans sep_elim_left)).trans (agree _ _ s')) x hx,
    ((sep_mono_left (sep_elim_right.trans sep_elim_right)).trans (agree _ _ s')) x hx⟩

/-- What a run ends with. -/
def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_v6) = scores m d) ∧ r.2.sem = fun _ => 0

/-- With labels in range every run ends with the arguments unchanged, the result at the scores and all semaphores at
zero. -/
theorem run_main [∀ e, Nonempty (Elt F e)] (hl : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (predRow m) (targetRow m) (outAt m) hl)
    (fun q _ => match q with | 0 => SparseCore.Cfg.VecSplit.of_plain (vecSplit (predRow m) (targetRow m) (outAt m)))
    m ρ main (fun d => G d) (FIN m) (u₀ (F := F)) (sep_elim_left.trans (hu₀ m)) (hmain m ρ) (fq m) (hfin m) (QC m) (fun _ h hz => ⟨h, hz⟩)

/-- The labels are in range when the precondition holds of every device's arguments. -/
theorem inRange_of_pre [Cert.Pre_in_range.Facts]
    (h : ∀ d : Dev nD, Cert.Pre_in_range.fn (F := F) (m ((d.tc : Thread nD τ).loc main_arg0)) (m ((d.tc : Thread nD τ).loc main_arg1)) = fun _ => 1#1) :
    InRange m := fun d j => labels_of_pre _ _ (h d) _

end Cert.Proof.KernelIdeal

end
-- ==== Proof.Reference.lean ====
/- The reference's run: its operations in order, what its result buffer holds at the end as a term of the arguments'
   contents, and its arguments left alone. -/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.Proof.Reference

open Idealize.ShloMosaic Idealize.ShloMosaic.TcCoe Idealize.ShloMosaic.StableHlo Idealize.SL.Sem
open Cert.ReferenceIdeal Cert.ReferenceIdeal.Gen

variable {F : FTy → Type} [FloatOps F]

/-- The largest class of every voxel: the index result of the fold of the reference's reducer over the five classes. -/
def best (x : FVec F S2x5x128x128x128 .f32) : IVec S2x128x128x128 32 := fun j =>
  (Host.argReduce reducer_argmax_f32_i32 x (iotaInDim S2x5x128x128x128 32 1) (constant S_ .f32 0xFF800000#32)
    (constantI S_ 32 0#32) reducesTo_S2x5x128x128x128_S2x128x128x128_d1 h_S_ j).2

/-- An integer scalar at every voxel. -/
def everywhere (n : BitVec 32) : IVec S2x128x128x128 32 :=
  broadcastInDim S2x128x128x128 ![] bcast_S_S2x128x128x128 (constantI S_ 32 n)

/-- An integer scalar at every place of the flat list of voxels. -/
def allAlong (n : BitVec 32) : IVec S4194304 32 :=
  broadcastInDim S4194304 ![] bcast_S_S4194304 (constantI S_ 32 n)

/-- Which voxels carry a label that is a class. -/
def inside (t : IVec S2x128x128x128 32) : IVec S2x128x128x128 1 :=
  andi (cmpi .sge t (everywhere 0#32)) (cmpi .slt t (everywhere 5#32))

/-- The bin of every voxel, five times its label `t` and its largest class `b` (zero where the label is no class). -/
def bins (b t : IVec S2x128x128x128 32) : IVec S2x128x128x128 32 :=
  select (inside t) (addi (muli (everywhere 5#32) t) b) (everywhere 0#32)

/-- The bins as a flat list, raised to zero. -/
def raised (b : IVec S2x128x128x128 32) : IVec S4194304 32 :=
  maxsi (allAlong 0#32) (shapeCast S4194304 b shapeCasts_S2x128x128x128_S4194304)

/-- The places the counts go to: the raised bins, the negative ones counted from the end. -/
def places (b : IVec S2x128x128x128 32) : IVec S4194304 32 :=
  select (cmpi .slt (raised b) (allAlong 0#32)) (addi (raised b) (allAlong 25#32)) (raised b)

/-- What every voxel adds: one where its label is a class, else zero. -/
def weights (n : IVec S2x128x128x128 1) : FVec F S4194304 .f32 :=
  uitofp .f32 (shapeCast S4194304 n shapeCasts_S2x128x128x128_S4194304)

/-- The twenty-five counts, from the bins and from which voxels count. -/
def tally (b : IVec S2x128x128x128 32) (n : IVec S2x128x128x128 1) : FVec F S25 .f32 :=
  Host.scatterAdd scatter_S25_S4194304x1_S4194304_n_0_0_1
    (broadcastInDim S25 ![] bcast_S_S25 (constant S_ .f32 0x00000000#32))
    (broadcastInDim S4194304x1 ![0] bcast_S4194304_S4194304x1_0 (places b)) (weights n)

/-- Where the table's row and column agree. -/
def onDiagonal : IVec S5x5 1 :=
  cmpi .eq
    (broadcastInDim S5x5 ![0, 1] bcast_S5x1_S5x5_0_1 (broadcastInDim S5x1 ![0] bcast_S5_S5x1_0 (iotaInDim S5 32 0)))
    (broadcastInDim S5x5 ![0, 1] bcast_S1x5_S5x5_0_1 (broadcastInDim S1x5 ![1] bcast_S5_S1x5_1 (iotaInDim S5 32 0)))

/-- The scores of a table: twice its diagonal over its row sums and column sums. -/
def scoresOf (c : FVec F S5x5 .f32) : FVec F S5 .f32 :=
  Host.divf
    (mulf
      (Host.reduceAdd
        (select onDiagonal c (broadcastInDim S5x5 ![] bcast_S_S5x5 (constant S_ .f32 0x00000000#32)))
        (constant S_ .f32 0x00000000#32) reducesTo_S5x5_S5_d1 h_S_)
      (broadcastInDim S5 ![] bcast_S_S5 (constant S_ .f32 0x40000000#32)))
    (addf (Host.reduceAdd c (constant S_ .f32 0x00000000#32) reducesTo_S5x5_S5_d1 h_S_)
      (Host.reduceAdd c (constant S_ .f32 0x00000000#32) reducesTo_S5x5_S5_d0 h_S_))

/-- What the reference computes from its two arguments. -/
def out (x : FVec F S2x5x128x128x128 .f32) (t : IVec S2x128x128x128 32) : FVec F S5 .f32 :=
  scoresOf (shapeCast S5x5 (tally (bins (best x) t) (inside t)) shapeCasts_S25_S5x5)

/-- What folds the five classes of a voxel: of the scores, the classes, and the two starting values. -/
abbrev Folding (F : FTy → Type) : Type :=
  FVec F S2x5x128x128x128 .f32 → IVec S2x5x128x128x128 32 → FVec F S_ .f32 → IVec S_ 32
    → S2x128x128x128.Idx → F .f32 × BitVec 32

/-- The reference's first operations: the fold of the classes, which they hold as an argument. -/
abbrev opsFold (f : Folding F) : List (HloOp τ sig (Elt F)) :=
  [ TRef.nullary main_call0.v0 (iotaInDim S2x5x128x128x128 32 1),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (f x y u v j).1),
    TRef.quaternary (.of main_arg0) main_call0.v0 main_call0.cst main_call0.c main_call0.v1_1 (fun x y u v j => (f x y u v j).2) ]

/-- Its next operations: which voxels count, and the bins. -/
abbrev opsA : List (HloOp τ sig (Elt F)) :=
  [ nullary main_c (constantI S_ 32 0#32),
    unary main_c main_v1 (broadcastInDim S2x128x128x128 ![] bcast_S_S2x128x128x128),
    binary main_arg1 main_v1 main_v2 (cmpi .sge),
    nullary main_c_0 (constantI S_ 32 5#32),
    unary main_c_0 main_v3 (broadcastInDim S2x128x128x128 ![] bcast_S_S2x128x128x128),
    binary main_arg1 main_v3 main_v4 (cmpi .slt),
    binary main_v2 main_v4 main_v5 andi,
    nullary main_c_1 (constantI S_ 32 5#32),
    unary main_c_1 main_v6 (broadcastInDim S2x128x128x128 ![] bcast_S_S2x128x128x128),
    binary main_v6 main_arg1 main_v7 muli,
    binary main_v7 main_v0 main_v8 addi,
    nullary main_c_2 (constantI S_ 32 0#32),
    TRef.unary (.of main_c_2) main_call1.v0 id,
    TRef.unary main_call1.v0 main_call1.v1 (broadcastInDim S2x128x128x128 ![] bcast_S_S2x128x128x128),
    TRef.ternary (.of main_v5) (.of main_v8) main_call1.v1 main_call1.v2 select ]

/-- The operations after those: the counts. -/
abbrev opsB : List (HloOp τ sig (Elt F)) :=
  [ reshape main_v9 main_v10 rfl shapeCasts_S2x128x128x128_S4194304,
    reshape main_v5 main_v11 rfl shapeCasts_S2x128x128x128_S4194304,
    unary main_v11 main_v12 (uitofp .f32),
    nullary main_cst (constant S_ .f32 0x00000000#32),
    unary main_cst main_v13 (broadcastInDim S25 ![] bcast_S_S25),
    nullary main_c_3 (constantI S_ 32 0#32),
    TRef.unary (.of main_c_3) main_call2.v0 id,
    TRef.unary main_call2.v0 main_call2.v1 (broadcastInDim S4194304 ![] bcast_S_S4194304),
    TRef.binary main_call2.v1 (.of main_v10) main_call2.v2 maxsi,
    nullary main_c_4 (constantI S_ 32 0#32),
    unary main_c_4 main_v15 (broadcastInDim S4194304 ![] bcast_S_S4194304),
    binary main_v14 main_v15 main_v16 (cmpi .slt),
    nullary main_c_5 (constantI S_ 32 25#32),
    unary main_c_5 main_v17 (broadcastInDim S4194304 ![] bcast_S_S4194304),
    binary main_v14 main_v17 main_v18 addi,
    ternary main_v16 main_v18 main_v14 main_v19 select,
    unary main_v19 main_v20 (broadcastInDim S4194304x1 ![0] bcast_S4194304_S4194304x1_0),
    ternary main_v13 main_v20 main_v12 main_v21 (fun x i u => Host.scatterAdd scatter_S25_S4194304x1_S4194304_n_0_0_1 x i u) ]

/-- Its last operations: the scores. -/
abbrev opsC : List (HloOp τ sig (Elt F)) :=
  [ reshape main_v21 main_v22 rfl shapeCasts_S25_S5x5,
    nullary main_v23 (iotaInDim S5 32 0),
    unary main_v23 main_v24 (broadcastInDim S5x1 ![0] bcast_S5_S5x1_0),
    unary main_v23 main_v25 (broadcastInDim S1x5 ![1] bcast_S5_S1x5_1),
    unary main_v24 main_v26 (broadcastInDim S5x5 ![0, 1] bcast_S5x1_S5x5_0_1),
    unary main_v25 main_v27 (broadcastInDim S5x5 ![0, 1] bcast_S1x5_S5x5_0_1),
    binary main_v26 main_v27 main_v28 (cmpi .eq),
    nullary main_cst_6 (constant S_ .f32 0x00000000#32),
    TRef.unary (.of main_cst_6) main_call3.v0 id,
    TRef.unary main_call3.v0 main_call3.v1 (broadcastInDim S5x5 ![] bcast_S_S5x5),
    TRef.ternary (.of main_v28) (.of main_v22) main_call3.v1 main_call3.v2 select,
    nullary main_cst_7 (constant S_ .f32 0x00000000#32),
    binary main_v29 main_cst_7 main_v30 (fun x v => Host.reduceAdd x v reducesTo_S5x5_S5_d1 h_S_),
    nullary main_cst_8 (constant S_ .f32 0x40000000#32),
    unary main_cst_8 main_v31 (broadcastInDim S5 ![] bcast_S_S5),
    binary main_v30 main_v31 main_v32 mulf,
    nullary main_cst_9 (constant S_ .f32 0x00000000#32),
    binary main_v22 main_cst_9 main_v33 (fun x v => Host.reduceAdd x v reducesTo_S5x5_S5_d1 h_S_),
    nullary main_cst_10 (constant S_ .f32 0x00000000#32),
    binary main_v22 main_cst_10 main_v34 (fun x v => Host.reduceAdd x v reducesTo_S5x5_S5_d0 h_S_),
    binary main_v33 main_v34 main_v35 addf,
    binary main_v32 main_v35 main_v36 Host.divf ]

/-- The fold of the reference's reducer over the five classes. -/
abbrev foldBest : Folding F := fun x y u v j =>
  Host.argReduce reducer_argmax_f32_i32 x y u v reducesTo_S2x5x128x128x128_S2x128x128x128_d1 h_S_ j

/-- The reference's operations in order, its functions' bodies in the places of their calls. -/
abbrev ops : List (HloOp τ sig (Elt F)) :=
  [ TRef.nullary main_call0.v0 (iotaInDim S2x5x128x128x128 32 1),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S2x5x128x128x128_S2x128x128x128_d1 h_S_ j).1),
    TRef.quaternary (.of main_arg0) main_call0.v0 main_call0.cst main_call0.c main_call0.v1_1 (fun x y u v j => (Host.argReduce reducer_argmax_f32_i32 x y u v reducesTo_S2x5x128x128x128_S2x128x128x128_d1 h_S_ j).2),
    nullary main_c (constantI S_ 32 0#32),
    unary main_c main_v1 (broadcastInDim S2x128x128x128 ![] bcast_S_S2x128x128x128),
    binary main_arg1 main_v1 main_v2 (cmpi .sge),
    nullary main_c_0 (constantI S_ 32 5#32),
    unary main_c_0 main_v3 (broadcastInDim S2x128x128x128 ![] bcast_S_S2x128x128x128),
    binary main_arg1 main_v3 main_v4 (cmpi .slt),
    binary main_v2 main_v4 main_v5 andi,
    nullary main_c_1 (constantI S_ 32 5#32),
    unary main_c_1 main_v6 (broadcastInDim S2x128x128x128 ![] bcast_S_S2x128x128x128),
    binary main_v6 main_arg1 main_v7 muli,
    binary main_v7 main_v0 main_v8 addi,
    nullary main_c_2 (constantI S_ 32 0#32),
    TRef.unary (.of main_c_2) main_call1.v0 id,
    TRef.unary main_call1.v0 main_call1.v1 (broadcastInDim S2x128x128x128 ![] bcast_S_S2x128x128x128),
    TRef.ternary (.of main_v5) (.of main_v8) main_call1.v1 main_call1.v2 select,
    reshape main_v9 main_v10 rfl shapeCasts_S2x128x128x128_S4194304,
    reshape main_v5 main_v11 rfl shapeCasts_S2x128x128x128_S4194304,
    unary main_v11 main_v12 (uitofp .f32),
    nullary main_cst (constant S_ .f32 0x00000000#32),
    unary main_cst main_v13 (broadcastInDim S25 ![] bcast_S_S25),
    nullary main_c_3 (constantI S_ 32 0#32),
    TRef.unary (.of main_c_3) main_call2.v0 id,
    TRef.unary main_call2.v0 main_call2.v1 (broadcastInDim S4194304 ![] bcast_S_S4194304),
    TRef.binary main_call2.v1 (.of main_v10) main_call2.v2 maxsi,
    nullary main_c_4 (constantI S_ 32 0#32),
    unary main_c_4 main_v15 (broadcastInDim S4194304 ![] bcast_S_S4194304),
    binary main_v14 main_v15 main_v16 (cmpi .slt),
    nullary main_c_5 (constantI S_ 32 25#32),
    unary main_c_5 main_v17 (broadcastInDim S4194304 ![] bcast_S_S4194304),
    binary main_v14 main_v17 main_v18 addi,
    ternary main_v16 main_v18 main_v14 main_v19 select,
    unary main_v19 main_v20 (broadcastInDim S4194304x1 ![0] bcast_S4194304_S4194304x1_0),
    ternary main_v13 main_v20 main_v12 main_v21 (fun x i u => Host.scatterAdd scatter_S25_S4194304x1_S4194304_n_0_0_1 x i u),
    reshape main_v21 main_v22 rfl shapeCasts_S25_S5x5,
    nullary main_v23 (iotaInDim S5 32 0),
    unary main_v23 main_v24 (broadcastInDim S5x1 ![0] bcast_S5_S5x1_0),
    unary main_v23 main_v25 (broadcastInDim S1x5 ![1] bcast_S5_S1x5_1),
    unary main_v24 main_v26 (broadcastInDim S5x5 ![0, 1] bcast_S5x1_S5x5_0_1),
    unary main_v25 main_v27 (broadcastInDim S5x5 ![0, 1] bcast_S1x5_S5x5_0_1),
    binary main_v26 main_v27 main_v28 (cmpi .eq),
    nullary main_cst_6 (constant S_ .f32 0x00000000#32),
    TRef.unary (.of main_cst_6) main_call3.v0 id,
    TRef.unary main_call3.v0 main_call3.v1 (broadcastInDim S5x5 ![] bcast_S_S5x5),
    TRef.ternary (.of main_v28) (.of main_v22) main_call3.v1 main_call3.v2 select,
    nullary main_cst_7 (constant S_ .f32 0x00000000#32),
    binary main_v29 main_cst_7 main_v30 (fun x v => Host.reduceAdd x v reducesTo_S5x5_S5_d1 h_S_),
    nullary main_cst_8 (constant S_ .f32 0x40000000#32),
    unary main_cst_8 main_v31 (broadcastInDim S5 ![] bcast_S_S5),
    binary main_v30 main_v31 main_v32 mulf,
    nullary main_cst_9 (constant S_ .f32 0x00000000#32),
    binary main_v22 main_cst_9 main_v33 (fun x v => Host.reduceAdd x v reducesTo_S5x5_S5_d1 h_S_),
    nullary main_cst_10 (constant S_ .f32 0x00000000#32),
    binary main_v22 main_cst_10 main_v34 (fun x v => Host.reduceAdd x v reducesTo_S5x5_S5_d0 h_S_),
    binary main_v33 main_v34 main_v35 addf,
    binary main_v32 main_v35 main_v36 Host.divf ]

/-- They are the four lines one after another. -/
theorem ops_eq : (ops : List (HloOp τ sig (Elt F))) = opsFold foldBest ++ (opsA ++ (opsB ++ opsC)) := by
  simp only [List.cons_append, List.nil_append]

set_option maxRecDepth 1024 in
/-- The reference is the straight line of those operations. -/
theorem main_eq (c : Dev nD) : main (F := F) c = seq ops := by
  simp only [main, fn_argmax.body, fn_where.body, fn_clip.body, fn_where_0.body, seq, bind_assoc, pure_bind]
  rfl

/-- A line of operations followed by another: the second's fold over the first's. -/
theorem after_two (l k : List (HloOp τ sig (Elt F))) (V : Valuation τ sig (Elt F)) :
    after (l ++ k) V = after k (after l V) := by
  induction l generalizing V with
  | nil => rfl
  | cons o l ih => exact ih _

/-- The first operations leave the fold's class. -/
theorem fold_eq (f : Folding F) (V : Valuation τ sig (Elt F)) :
    after (opsFold f) V (main_v0 : DevRef τ sig)
      = fun j => (f (V (main_arg0 : DevRef τ sig)) (iotaInDim S2x5x128x128x128 32 1) (constant S_ .f32 0xFF800000#32)
          (constantI S_ 32 0#32) j).2 := by
  after_results_simp
  rfl

/-- The first operations leave the labels alone. -/
theorem fold_arg1 (f : Folding F) (V : Valuation τ sig (Elt F)) :
    after (opsFold f) V (main_arg1 : DevRef τ sig) = V (main_arg1 : DevRef τ sig) := by
  simp only [after_cons, after_nil]
  rfl

/-- The next operations leave the bins. -/
theorem bins_eq (V : Valuation τ sig (Elt F)) :
    after opsA V (main_v9 : DevRef τ sig) = bins (V (main_v0 : DevRef τ sig)) (V (main_arg1 : DevRef τ sig)) := by
  after_results_simp
  rfl

/-- The next operations leave which voxels count. -/
theorem inside_eq (V : Valuation τ sig (Elt F)) :
    after opsA V (main_v5 : DevRef τ sig) = inside (V (main_arg1 : DevRef τ sig)) := by
  after_results_simp
  rfl

/-- The operations after those leave the counts. -/
theorem tally_eq (V : Valuation τ sig (Elt F)) :
    after opsB V (main_v21 : DevRef τ sig) = tally (V (main_v9 : DevRef τ sig)) (V (main_v5 : DevRef τ sig)) := by
  after_results_simp
  rfl

/-- The last operations leave the scores. -/
theorem scores_eq (V : Valuation τ sig (Elt F)) :
    after opsC V (main_v36 : DevRef τ sig)
      = scoresOf (shapeCast S5x5 (V (main_v21 : DevRef τ sig)) shapeCasts_S25_S5x5) := by
  after_results_simp
  rfl

/-- The four lines leave the scores, whatever folds the classes. -/
theorem lines_eq (f : Folding F) (V : Valuation τ sig (Elt F)) :
    after (opsFold f ++ (opsA ++ (opsB ++ opsC))) V (main_v36 : DevRef τ sig)
      = scoresOf (shapeCast S5x5
          (tally
            (bins (fun j => (f (V (main_arg0 : DevRef τ sig)) (iotaInDim S2x5x128x128x128 32 1)
                (constant S_ .f32 0xFF800000#32) (constantI S_ 32 0#32) j).2) (V (main_arg1 : DevRef τ sig)))
            (inside (V (main_arg1 : DevRef τ sig)))) shapeCasts_S25_S5x5) := by
  rw [after_two, after_two, after_two, scores_eq, tally_eq, bins_eq, inside_eq, fold_eq, fold_arg1]

/-- The fold of the reference's reducer is `best`. -/
theorem best_eq (x : FVec F S2x5x128x128x128 .f32) :
    (fun j => (foldBest x (iotaInDim S2x5x128x128x128 32 1) (constant S_ .f32 0xFF800000#32) (constantI S_ 32 0#32) j).2)
      = best x := rfl

/-- Folding the operations leaves `out` of the arguments' contents in the result buffer. -/
theorem out_eq (V : Valuation τ sig (Elt F)) :
    after ops V (main_v36 : DevRef τ sig) = out (V (main_arg0 : DevRef τ sig)) (V (main_arg1 : DevRef τ sig)) := by
  rw [out, ← best_eq]
  exact (congrArg (fun l => after l V (main_v36 : DevRef τ sig)) ops_eq).trans (lines_eq foldBest V)

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- No buffer of the reference is a kernel's own. -/
theorem noScopedRefs : (Finset.univ.filter fun b : Ref sig .tc => b.isScoped) = ∅ := by decide

/-- No semaphore of the reference is a kernel's own. -/
theorem noScopedSems : (Finset.univ.filter fun sm : SemLoc sig => sm.isScoped .tc) = ∅ := by decide

/-- Every buffer the operations touch is a buffer of the TensorCore. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    nullary_bufs_sub .., unary_bufs_sub .., binary_bufs_sub .., nullary_bufs_sub .., unary_bufs_sub ..,
    binary_bufs_sub .., binary_bufs_sub .., nullary_bufs_sub .., unary_bufs_sub .., binary_bufs_sub ..,
    binary_bufs_sub .., nullary_bufs_sub .., unary_bufs_sub .., unary_bufs_sub .., ternary_bufs_sub ..,
    reshape_bufs_sub .., reshape_bufs_sub .., unary_bufs_sub .., nullary_bufs_sub .., unary_bufs_sub ..,
    nullary_bufs_sub .., unary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., ternary_bufs_sub .., reshape_bufs_sub .., nullary_bufs_sub ..,
    unary_bufs_sub .., unary_bufs_sub .., unary_bufs_sub .., unary_bufs_sub .., binary_bufs_sub ..,
    nullary_bufs_sub .., unary_bufs_sub .., unary_bufs_sub .., ternary_bufs_sub .., nullary_bufs_sub ..,
    binary_bufs_sub .., nullary_bufs_sub .., unary_bufs_sub .., binary_bufs_sub .., nullary_bufs_sub ..,
    binary_bufs_sub .., nullary_bufs_sub .., binary_bufs_sub .., binary_bufs_sub .., binary_bufs_sub ..⟩

/-- Every execution of the reference ends with `out` of the arguments in the result buffer, the arguments as they were
    and every semaphore zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v36)
            = out (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v36).trans (out_eq _), (h c main_arg0).trans (arg0_eq _),
      (h c main_arg1).trans (arg1_eq _)⟩, sem_eq_zero_of_no_sems (by decide) r.2⟩)
    (run_seq noScopedRefs noScopedSems defs main (fun _ => ops) main_eq (fun _ => ops_sub) m ρ)

end Cert.Proof.Reference

end
-- ==== Proof.Best.lean ====
/-
  The largest of five scores: the reference's fold and the kernel's chain of comparisons pick the same class.
-/
module

public import proofs.«01_k».proof.Proof.Reference
public import proofs.«01_k».proof.Proof.Ideal.Values
public import Idealize.ShloMosaic.PureOps.Ideal.Laws
public import Idealize.ShloMosaic.Lib.ValueIdxCore

@[expose] public section

noncomputable section

namespace Cert.Proof.Reference

open Idealize.ShloMosaic
open Cert.ReferenceIdeal Cert.ReferenceIdeal.Gen

/-- `p` comes before `q`: its score is larger, or the scores are equal and its class is not after `q`'s. -/
def Better (p q : EReal × BitVec 32) : Prop := q.1 < p.1 ∨ (q.1 = p.1 ∧ p.2.toInt ≤ q.2.toInt)

/-- Every pair is as good as itself. -/
theorem Better.refl (p : EReal × BitVec 32) : Better p p := .inr ⟨rfl, le_rfl⟩

/-- Being better is transitive. -/
theorem Better.trans {p q r : EReal × BitVec 32} (h : Better p q) (h' : Better q r) : Better p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- A choice by a strict comparison of ideal scores. -/
theorem select_gt {α : Type} (x y : EReal) (a b : α) :
    Scalar.select (FloatOps.cmpf (F := Ideal) (φ := .f32) .ogt x y) a b = if y < x then a else b := by
  show Scalar.select (BitVec.ofBool (decide (y < x))) a b = _
  by_cases h : y < x <;> simp [Scalar.select, h]

/-- The reference's reducer returns one of its two pairs, and that one is as good as both. -/
theorem reducer_spec (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨x, i⟩ := a
  obtain ⟨y, k⟩ := b
  have e : reducer_argmax_f32_i32 (F := Ideal) (x, i) (y, k)
      = (if y < x then x else y, if y < x ∨ (x = y ∧ i.toInt < k.toInt) then i else k) := by
    unfold reducer_argmax_f32_i32
    show (Scalar.select (IntOp.ori (BitVec.ofBool (decide (y < x))) (BitVec.ofBool (decide (x ≠ x)))) x y,
      Scalar.select (IntOp.ori (IntOp.ori (BitVec.ofBool (decide (y < x))) (BitVec.ofBool (decide (x ≠ x))))
        (IntOp.andi (BitVec.ofBool (decide (x = y))) (BitVec.ofBool (i.slt k)))) i k) = _
    by_cases h1 : y < x <;> by_cases h2 : x = y <;> by_cases h3 : i.toInt < k.toInt <;>
      simp [Scalar.select, IntOp.ori, IntOp.andi, BitVec.slt, h1, h2, h3]
  rw [e]
  rcases lt_trichotomy y x with h | h | h
  · simp only [h, if_true, true_or]
    exact ⟨trivial, .refl _, .inl h⟩
  · subst h
    by_cases h3 : i.toInt < k.toInt
    · simp only [lt_irrefl, if_false, false_or, h3, and_self, if_true, true_or]
      exact ⟨trivial, .refl _, .inr ⟨rfl, h3.le⟩⟩
    · simp only [lt_irrefl, if_false, false_or, h3, and_false, or_true]
      exact ⟨trivial, .inr ⟨rfl, not_lt.mp h3⟩, .refl _⟩
  · have h1 : ¬ y < x := h.not_gt
    have h2 : ¬ x = y := h.ne
    simp only [h1, h2, if_false, false_and, or_self, or_true]
    exact ⟨trivial, .inl h, .refl _⟩

/-- The fold of such a reducer returns its start or a pair of the list, as good as all of them. -/
theorem foldl_best (f : EReal × BitVec 32 → EReal × BitVec 32 → EReal × BitVec 32)
    (hf : ∀ a b, (f a b = a ∨ f a b = b) ∧ Better (f a b) a ∧ Better (f a b) b) (L : List (EReal × BitVec 32))
    (p : EReal × BitVec 32) :
    (L.foldl f p = p ∨ L.foldl f p ∈ L) ∧ Better (L.foldl f p) p ∧ ∀ q ∈ L, Better (L.foldl f p) q := by
  induction L generalizing p with
  | nil => exact ⟨.inl rfl, .refl _, by simp⟩
  | cons a L ih =>
    obtain ⟨h1, h2, h3⟩ := ih (f p a)
    obtain ⟨g1, g2, g3⟩ := hf p a
    rw [List.foldl_cons]
    refine ⟨?_, h2.trans g2, fun q hq => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.mp hq with rfl | hq
      · exact h2.trans g3
      · exact h3 q hq

/-- The first `n` scores have their largest, the first of the largest ones, at `p.2`. -/
def IsFirst (X : ℕ → EReal) (n : ℕ) (p : EReal × ℕ) : Prop :=
  p.2 < n ∧ p.1 = X p.2 ∧ ∀ k, k < n → X k < p.1 ∨ (X k = p.1 ∧ p.2 ≤ k)

/-- One more score, taken where it is strictly larger. -/
def next (X : ℕ → EReal) (n : ℕ) (p : EReal × ℕ) : EReal × ℕ := if p.1 < X n then (X n, n) else p

/-- That step keeps the first of the largest. -/
theorem IsFirst.next {X : ℕ → EReal} {n : ℕ} {p : EReal × ℕ} (h : IsFirst X n p) : IsFirst X (n + 1) (next X n p) := by
  obtain ⟨h1, h2, h3⟩ := h
  unfold Reference.next
  by_cases hlt : p.1 < X n
  · rw [if_pos hlt]
    refine ⟨Nat.lt_succ_self n, rfl, fun k hk => ?_⟩
    rcases Nat.lt_succ_iff_lt_or_eq.mp hk with hk | rfl
    · rcases h3 k hk with h | ⟨h, _⟩
      · exact .inl (h.trans hlt)
      · exact .inl (h ▸ hlt)
    · exact .inr ⟨rfl, le_rfl⟩
  · rw [if_neg hlt]
    refine ⟨h1.trans (Nat.lt_succ_self n), h2, fun k hk => ?_⟩
    rcases Nat.lt_succ_iff_lt_or_eq.mp hk with hk | rfl
    · exact h3 k hk
    · rcases lt_or_eq_of_le (not_lt.mp hlt) with h | h
      · exact .inl h
      · exact .inr ⟨h, h1.le⟩

/-- The kernel's chain of comparisons finds the first of the largest of five scores. -/
theorem amax5_first (X : ℕ → EReal) :
    ∃ i, i < 5 ∧ KernelIdeal.amax5 (F := Ideal) (X 0) (X 1) (X 2) (X 3) (X 4) = BitVec.ofNat 32 i
      ∧ ∀ k, k < 5 → X k < X i ∨ (X k = X i ∧ i ≤ k) := by
  have h0 : IsFirst X 1 (X 0, 0) := ⟨Nat.zero_lt_one, rfl, fun k hk => .inr ⟨by rw [Nat.lt_one_iff.mp hk], Nat.zero_le k⟩⟩
  obtain ⟨g1, g2, g3⟩ := h0.next.next.next.next
  refine ⟨_, g1, ?_, fun k hk => g2 ▸ g3 k hk⟩
  unfold KernelIdeal.amax5
  simp only [select_gt, Reference.next]
  split_ifs <;> simp_all

/-- The fold of the reference's reducer over pairs of scores and classes, in any order, picks the kernel's class. -/
theorem fold_eq_amax5 (X : ℕ → EReal) (L : List (EReal × BitVec 32))
    (hL : ∀ p, p ∈ L ↔ ∃ c, c < 5 ∧ p = (X c, BitVec.ofNat 32 c)) :
    (L.foldl (reducer_argmax_f32_i32 (F := Ideal)) (⊥, 0#32)).2
      = KernelIdeal.amax5 (F := Ideal) (X 0) (X 1) (X 2) (X 3) (X 4) := by
  have hint : ∀ c, c < 5 → (BitVec.ofNat 32 c).toInt = (c : ℤ) := by
    intro c hc; interval_cases c <;> rfl
  obtain ⟨i, hi, hk, hX⟩ := amax5_first X
  obtain ⟨h1, h2, h3⟩ := foldl_best _ reducer_spec L (⊥, 0#32)
  generalize hr : L.foldl (reducer_argmax_f32_i32 (F := Ideal)) (⊥, 0#32) = r at h1 h2 h3 ⊢
  have hc : ∃ c, c < 5 ∧ r = (X c, BitVec.ofNat 32 c) := by
    rcases h1 with h1 | h1
    · refine ⟨0, by decide, ?_⟩
      have := h3 (X 0, 0#32) ((hL _).mpr ⟨0, by decide, rfl⟩)
      rw [h1] at this ⊢
      rcases this with h | ⟨h, _⟩
      · exact absurd h not_lt_bot
      · exact Prod.ext h.symm rfl
    · exact (hL r).mp h1
  obtain ⟨c, hc, rfl⟩ := hc
  rw [hk]
  have hci : c = i := by
    have a := hX c hc
    have b := h3 (X i, BitVec.ofNat 32 i) ((hL _).mpr ⟨i, hi, rfl⟩)
    unfold Better at b
    simp only [hint c hc, hint i hi] at b
    rcases a with a | ⟨a, a'⟩ <;> rcases b with b | ⟨b, b'⟩
    · exact absurd a b.not_gt
    · exact absurd a b.not_gt
    · exact absurd a b.ne'
    · omega
  rw [hci]

/-- What an index-carrying fold over one axis folds, as a set: a pair for each coordinate of that axis. -/
theorem mem_fiber {s t : Shape} {a : Fin s.rank} {α β : Type} (h' : s.ReducesTo [a] t) (h : s.Reduces [a] t) (x : s.Idx → α)
    (y : s.Idx → β) (j : t.Idx) (p : α × β) :
    p ∈ Host.argReduceFiber x y h' j ↔ ∃ k : Fin (s.size a), p = (x (h.lift j k), y (h.lift j k)) := by
  unfold Host.argReduceFiber
  rw [Shape.ReducesTo.drop_eq_drop h' h]
  simp only [List.mem_map, List.mem_filter, List.mem_finRange, true_and, decide_eq_true_eq]
  constructor
  · rintro ⟨n, hn, rfl⟩
    generalize s.rowMajor.symm n = i at hn ⊢
    exact ⟨i a, by rw [← hn, Shape.Reduces.lift_drop]⟩
  · rintro ⟨k, rfl⟩
    exact ⟨s.rowMajor (h.lift j k), by rw [Equiv.symm_apply_apply, Shape.Reduces.drop_lift], by rw [Equiv.symm_apply_apply]⟩

/-- An index-carrying fold over ideal scores is the plain fold over its pairs. -/
theorem argReduce_eq_foldl {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) (j : t.Idx) (v : Ideal .f32) (k : β) (hv : ∀ i, ix i = v)
    (hk : ∀ i, iy i = k) : Host.argReduce f x y ix iy h hu j = (Host.argReduceFiber x y h j).foldl f (v, k) := by
  rw [Ideal.argReduce_eq_reduce2, Host.reduce2_eq_foldl_fiber, hv, hk]

/-- Reducing the class axis keeps the other four. -/
theorem reduces_class : S2x5x128x128x128.Reduces [1] S2x128x128x128 := by decide

/-- The index of class `c` of the voxel at `j`. -/
def classIdx (j : S2x128x128x128.Idx) (c : ℕ) : S2x5x128x128x128.Idx :=
  ValueIdx.ix5 (j 0) (⟨c % 5, Nat.mod_lt _ (by decide)⟩ : Fin 5) (j 1) (j 2) (j 3)

/-- The voxel at `j` read at class `c`. -/
theorem lift_eq (j : S2x128x128x128.Idx) (c : Fin (S2x5x128x128x128.size 1)) : reduces_class.lift j c = classIdx j c.val := by
  have hc : c.val % 5 = c.val := Nat.mod_eq_of_lt c.isLt
  funext a
  refine Fin.ext ((Shape.Reduces.lift_val reduces_class j c a).trans ?_)
  match a with
  | ⟨0, _⟩ => rfl
  | ⟨1, _⟩ => exact hc.symm
  | ⟨2, _⟩ => rfl
  | ⟨3, _⟩ => rfl
  | ⟨4, _⟩ => rfl

/-- The class coordinate of such an index. -/
theorem iota_classIdx (j : S2x128x128x128.Idx) (c : ℕ) :
    iotaInDim S2x5x128x128x128 32 1 (classIdx j c) = BitVec.ofNat 32 (c % 5) := rfl

/-- The word of the smallest score. -/
theorem ofBits_bot : Ideal.ofBits .f32 0xFF800000#32 = ⊥ := by simp [Ideal.ofBits, Ideal.ieee]

/-- The class such a fold picks at every place. -/
theorem argReduce_snd {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) (v : Ideal .f32) (k : β) (hv : ∀ i, ix i = v)
    (hk : ∀ i, iy i = k) : (fun j => (Host.argReduce f x y ix iy h hu j).2)
      = fun j => ((Host.argReduceFiber x y h j).foldl f (v, k)).2 :=
  funext fun j => congrArg Prod.snd (argReduce_eq_foldl f x y ix iy h hu j v k hv hk)

/-- The reference's largest classes, as a plain fold. -/
theorem best_fun (x : FVec Ideal S2x5x128x128x128 .f32) :
    best x = fun j => (List.foldl (reducer_argmax_f32_i32 (F := Ideal)) (⊥, 0#32) (Host.argReduceFiber x
      (iotaInDim S2x5x128x128x128 32 1) reducesTo_S2x5x128x128x128_S2x128x128x128_d1 j)).2 :=
  argReduce_snd (reducer_argmax_f32_i32 (F := Ideal)) x (iotaInDim S2x5x128x128x128 32 1)
    (constant S_ .f32 0xFF800000#32) (constantI S_ 32 0#32) reducesTo_S2x5x128x128x128_S2x128x128x128_d1 h_S_
    ⊥ 0#32 (fun _ => ofBits_bot) (fun _ => rfl)

/-- The pairs folded at a voxel: its five scores with their classes. -/
theorem mem_pairs (x : FVec Ideal S2x5x128x128x128 .f32) (j : S2x128x128x128.Idx) (p : EReal × BitVec 32) :
    p ∈ Host.argReduceFiber x (iotaInDim S2x5x128x128x128 32 1) reducesTo_S2x5x128x128x128_S2x128x128x128_d1 j
      ↔ ∃ c, c < 5 ∧ p = (x (classIdx j c), BitVec.ofNat 32 c) := by
  refine (mem_fiber reducesTo_S2x5x128x128x128_S2x128x128x128_d1 reduces_class x _ j p).trans ?_
  constructor
  · rintro ⟨k, rfl⟩
    refine ⟨k.val, k.isLt, ?_⟩
    have hk : k.val % 5 = k.val := Nat.mod_eq_of_lt k.isLt
    rw [lift_eq, iota_classIdx, hk]
  · rintro ⟨c, hc, rfl⟩
    refine ⟨⟨c, hc⟩, ?_⟩
    rw [lift_eq, iota_classIdx, Nat.mod_eq_of_lt hc]

/-- The reference's largest class of a voxel is the kernel's. -/
theorem best_eq_amax5 (x : FVec Ideal S2x5x128x128x128 .f32) (j : S2x128x128x128.Idx) :
    best x j = KernelIdeal.amax5 (F := Ideal) (x (classIdx j 0)) (x (classIdx j 1)) (x (classIdx j 2)) (x (classIdx j 3))
      (x (classIdx j 4)) :=
  (congrFun (best_fun x) j).trans (fold_eq_amax5 (fun c => x (classIdx j c)) _ fun p => mem_pairs x j p)

end Cert.Proof.Reference

end
-- ==== Proof.Sums.lean ====
/-
  Facts about finite sums of naturals that both sides of the comparison use: a range split into rows, and the voxels of
  a kind counted from the tiles' counters.
-/
module

public import Mathlib.Algebra.BigOperators.Intervals
public import Mathlib.Algebra.BigOperators.Ring.Finset
public import Idealize.ShloMosaic.PureOps.Ideal

@[expose] public section

noncomputable section

namespace Cert.Proof

open Finset
open Idealize.ShloMosaic

/-- The sum over `a * b` numbers, taken row by row: `a` rows of `b`. -/
theorem sum_rows {M : Type} [AddCommMonoid M] (f : ℕ → M) (a b : ℕ) :
    ∑ i ∈ range a, ∑ j ∈ range b, f (i * b + j) = ∑ v ∈ range (a * b), f v := by
  induction a with
  | zero => simp
  | succ a ih => rw [sum_range_succ, ih, Nat.succ_mul, sum_range_add]

/-- How many of the first `n` numbers `v` have a `bin v` of the kind `p`. -/
def tallyOf (bin : ℕ → ℕ) (n : ℕ) (p : ℕ → Prop) [DecidablePred p] : ℕ :=
  ∑ v ∈ range n, if p (bin v) then 1 else 0

/-- The tallies of the single bins `g 0`, …, `g (k - 1)`, all different, add up to the tally of their union. -/
theorem sum_tallyOf (bin : ℕ → ℕ) (n k : ℕ) (g : ℕ → ℕ) (p : ℕ → Prop) [DecidablePred p]
    (h : ∀ v, (∑ c ∈ range k, if bin v = g c then 1 else 0) = if p (bin v) then 1 else 0) :
    ∑ c ∈ range k, tallyOf bin n (fun b => b = g c) = tallyOf bin n p := by
  unfold tallyOf
  rw [sum_comm]
  exact sum_congr rfl fun v _ => h v

/-- What tile `w`'s counter `q` holds after `s` steps: how often one of its lanes named `q`. -/
def hits (bin : ℕ → ℕ) (w s q : ℕ) : ℕ :=
  ∑ n ∈ range s, ∑ l ∈ range 16, if bin (w * 131072 + 16 * n + l) * 16 + l = q then 1 else 0

/-- One more step adds that step's lanes. -/
theorem hits_succ (bin : ℕ → ℕ) (w s q : ℕ) :
    hits bin w (s + 1) q
      = hits bin w s q + ∑ l ∈ range 16, if bin (w * 131072 + 16 * s + l) * 16 + l = q then 1 else 0 :=
  sum_range_succ _ s

/-- The counters of the bins of kind `p`, over all tiles, add up to the number of voxels with a bin of that kind. -/
theorem sum_hits (bin : ℕ → ℕ) (hb : ∀ v, bin v < 25) (p : ℕ → Prop) [DecidablePred p] :
    (∑ w ∈ range 32, ∑ q ∈ range 400, if p (q / 16) then hits bin w 8192 q else 0) = tallyOf bin 4194304 p := by
  have hrow : ∀ w, (∑ q ∈ range 400, if p (q / 16) then hits bin w 8192 q else 0)
      = ∑ n ∈ range 8192, ∑ l ∈ range 16, if p (bin (w * 131072 + (n * 16 + l))) then 1 else 0 := by
    intro w
    have h1 : ∀ q, (if p (q / 16) then hits bin w 8192 q else 0)
        = ∑ n ∈ range 8192, ∑ l ∈ range 16,
            if bin (w * 131072 + 16 * n + l) * 16 + l = q then (if p (q / 16) then 1 else 0) else 0 := by
      intro q
      unfold hits
      by_cases hp : p (q / 16)
      · simp only [hp, if_true]
      · simp only [hp, if_false, ite_self, sum_const_zero]
    rw [sum_congr rfl fun q _ => h1 q, sum_comm]
    refine sum_congr rfl fun n _ => ?_
    rw [sum_comm]
    refine sum_congr rfl fun l hl => ?_
    have hl' : l < 16 := mem_range.mp hl
    have hv := hb (w * 131072 + 16 * n + l)
    rw [sum_ite_eq, if_pos (mem_range.mpr (by omega))]
    have e1 : (bin (w * 131072 + 16 * n + l) * 16 + l) / 16 = bin (w * 131072 + 16 * n + l) := by omega
    have e2 : w * 131072 + (n * 16 + l) = w * 131072 + 16 * n + l := by omega
    rw [e1, e2]
  rw [sum_congr rfl fun w _ => hrow w]
  have h2 : ∀ w, (∑ n ∈ range 8192, ∑ l ∈ range 16, if p (bin (w * 131072 + (n * 16 + l))) then 1 else 0)
      = ∑ r ∈ range 131072, if p (bin (w * 131072 + r)) then 1 else 0 :=
    fun w => sum_rows (fun r => if p (bin (w * 131072 + r)) then 1 else 0) 8192 16
  rw [sum_congr rfl fun w _ => h2 w]
  exact sum_rows (fun v => if p (bin v) then 1 else 0) 32 131072

/-- The score of class `k` from the number of voxels of each kind. -/
def scoreOf (bin : ℕ → ℕ) (k : ℕ) : EReal :=
  Ideal.div (Ideal.ofBits .f32 0x40000000#32 * ((tallyOf bin 4194304 (fun b => b = 6 * k) : ℕ) : EReal))
    (((tallyOf bin 4194304 (fun b => b / 5 = k) : ℕ) : EReal) + ((tallyOf bin 4194304 (fun b => b % 5 = k) : ℕ) : EReal))

/-- A choice by an equality of words. -/
theorem select_eq {α : Type} (a b : BitVec 32) (x y : α) :
    Scalar.select (IntOp.cmpi .eq a b) x y = if a = b then x else y := by
  by_cases h : a = b
  · subst h; simp [Scalar.select, IntOp.cmpi]
  · have h' : (a == b) = false := by simpa using h
    simp [Scalar.select, IntOp.cmpi, h, h']

end Cert.Proof

end
-- ==== Proof.Tally.lean ====
/-
  The reference over the idealized floats: its counts as numbers of voxels, and its scores from them.
-/
module

public import proofs.«01_k».proof.Proof.Reference
public import proofs.«01_k».proof.Proof.Sums
public import Idealize.ShloMosaic.PureOps.Ideal.Laws
public import Idealize.ShloMosaic.Lib.ValueIdxCore
public import Idealize.ShloMosaic.Lib.Pipeline.Value
public import Idealize.ShloMosaic.Lib.Routing.OpsPair
public import Idealize.ShloMosaic.Lib.IdealHost

@[expose] public section

noncomputable section

namespace Cert.Proof.Reference

open Idealize.ShloMosaic
open Cert.ReferenceIdeal Cert.ReferenceIdeal.Gen

/-- A word below a small bound is one of the words of the numbers below it. -/
theorem word_cases (y : BitVec 32) (n : ℕ) (h : y.toNat < n) : ∃ k, k < n ∧ y = BitVec.ofNat 32 k :=
  ⟨y.toNat, h, by simp⟩

/-- A voxel whose label is a class counts. -/
theorem inside_one (t : IVec S2x128x128x128 32) (j : S2x128x128x128.Idx) (h : (t j).toNat < 5) : inside t j = 1#1 := by
  show IntOp.andi (IntOp.cmpi .sge (t j) 0#32) (IntOp.cmpi .slt (t j) 5#32) = 1#1
  obtain ⟨k, hk, e⟩ := word_cases (t j) 5 h
  rw [e]
  interval_cases k <;> decide

/-- The bin of a voxel whose label is a class. -/
theorem bins_toNat (b t : IVec S2x128x128x128 32) (j : S2x128x128x128.Idx) (ht : (t j).toNat < 5) (hb : (b j).toNat < 5) :
    (bins b t j).toNat = (t j).toNat * 5 + (b j).toNat := by
  show (Scalar.select (inside t j) (5#32 * t j + b j) 0#32).toNat = _
  rw [inside_one t j ht]
  show (5#32 * t j + b j).toNat = _
  simp only [BitVec.toNat_add, BitVec.toNat_mul, BitVec.toNat_ofNat]
  omega

/-- A bin in range is the place its count goes to. -/
theorem places_toInt (b : IVec S2x128x128x128 32) (v : S4194304.Idx)
    (h : (shapeCast S4194304 b shapeCasts_S2x128x128x128_S4194304 v).toNat < 25) :
    (places b v).toInt = ((shapeCast S4194304 b shapeCasts_S2x128x128x128_S4194304 v).toNat : ℤ) := by
  show (Scalar.select (IntOp.cmpi .slt (IntOp.maxsi 0#32 (shapeCast S4194304 b shapeCasts_S2x128x128x128_S4194304 v)) 0#32)
    (IntOp.maxsi 0#32 (shapeCast S4194304 b shapeCasts_S2x128x128x128_S4194304 v) + 25#32)
    (IntOp.maxsi 0#32 (shapeCast S4194304 b shapeCasts_S2x128x128x128_S4194304 v))).toInt = _
  obtain ⟨k, hk, e⟩ := word_cases _ 25 h
  rw [e]
  interval_cases k <;> decide

/-- A voxel that counts adds one. -/
theorem weights_eq (n : IVec S2x128x128x128 1) (v : S4194304.Idx)
    (h : shapeCast S4194304 n shapeCasts_S2x128x128x128_S4194304 v = 1#1) : (weights (F := Ideal) n v : EReal) = 1 := by
  show (((shapeCast S4194304 n shapeCasts_S2x128x128x128_S4194304 v).toNat : ℝ) : EReal) = 1
  rw [h]
  simp

/-- The zero word is zero. -/
theorem ofBits_zero : Ideal.ofBits .f32 0x00000000#32 = 0 := by simp [Ideal.ofBits, Ideal.ieee]

/-- A sum over a one-axis array whose summand depends on the place's number. -/
theorem sum_idx1 {M : Type} [AddCommMonoid M] (n : ℕ) (f : ℕ → M) :
    ∑ j : (⟨1, ![n]⟩ : Shape).Idx, f (j 0).val = ∑ v ∈ Finset.range n, f v := by
  rw [Finset.sum_range]
  exact Fintype.sum_equiv (Equiv.piUnique fun a : Fin 1 => Fin ((![n] : Fin 1 → ℕ) a)) _ _ fun _ => rfl

/-- Where an update lands: at the place its index names. -/
theorem lands (p : IVec S4194304 32) (v : S4194304.Idx) (i : S25.Idx) :
    scatter_S25_S4194304x1_S4194304_n_0_0_1.resultIdx? v
        (broadcastInDim S4194304x1 ![0] bcast_S4194304_S4194304x1_0 p) = some i
      ↔ (p v).toInt = ((i 0).val : ℤ) := by
  have hs : scatter_S25_S4194304x1_S4194304_n_0_0_1.start v (broadcastInDim S4194304x1 ![0] bcast_S4194304_S4194304x1_0 p) 0
      = (p v).toInt := by
    unfold ScatterDims.start
    rw [dif_pos (by decide)]
    refine congrArg BitVec.toInt (broadcastInDim_apply _ _ p _ v fun a => ?_)
    match a with
    | ⟨0, _⟩ => rfl
  have hw : scatter_S25_S4194304x1_S4194304_n_0_0_1.window v 0 = 0 := by
    unfold ScatterDims.window
    rw [dif_neg (by decide)]
  rw [Routing.resultIdx?_eq_some]
  constructor
  · intro h
    have := h 0
    rw [hs, hw] at this
    simpa using this
  · intro h a
    have ha : a = 0 := Subsingleton.elim _ _
    subst ha
    rw [hs, hw, h]
    simp

/-- The same over the list of voxels. -/
theorem sum_voxels {M : Type} [AddCommMonoid M] (f : ℕ → M) :
    ∑ v : S4194304.Idx, f (v 0).val = ∑ v ∈ Finset.range 4194304, f v := sum_idx1 4194304 f

/-- A sum scattered into an array, read at an element: what was there and the updates that land on it. -/
theorem scatterAdd_apply {s si u : Shape} {w : ℕ} (d : ScatterDims s si u) (x : FVec Ideal s .f32) (idx : IVec si w)
    (upd : FVec Ideal u .f32) (i : s.Idx) :
    (Host.scatterAdd d x idx upd i : EReal)
      = (x i : EReal) + ∑ j : u.Idx, if d.resultIdx? j idx = some i then (upd j : EReal) else 0 := by
  rw [← Finset.sum_filter]
  rfl

/-- The counts at a bin: the voxels that land there, each with its weight. -/
theorem tally_apply (b : IVec S2x128x128x128 32) (n : IVec S2x128x128x128 1) (i : S25.Idx) :
    (tally (F := Ideal) b n i : EReal) = Ideal.ofBits .f32 0x00000000#32 + ∑ v : S4194304.Idx,
      if scatter_S25_S4194304x1_S4194304_n_0_0_1.resultIdx? v
        (broadcastInDim S4194304x1 ![0] bcast_S4194304_S4194304x1_0 (places b)) = some i then (weights (F := Ideal) n v : EReal)
      else 0 :=
  scatterAdd_apply scatter_S25_S4194304x1_S4194304_n_0_0_1 _ _ (weights (F := Ideal) n) i

/-- The reference's counts: how many voxels have each bin. -/
theorem tally_count (b : IVec S2x128x128x128 32) (n : IVec S2x128x128x128 1) (bin : ℕ → ℕ) (hlt : ∀ v, bin v < 25)
    (hbin : ∀ v : S4194304.Idx, (shapeCast S4194304 b shapeCasts_S2x128x128x128_S4194304 v).toNat = bin (v 0).val)
    (hn : ∀ v : S4194304.Idx, shapeCast S4194304 n shapeCasts_S2x128x128x128_S4194304 v = 1#1) (i : S25.Idx) :
    (tally (F := Ideal) b n i : EReal) = ((tallyOf bin 4194304 (fun c => c = (i 0).val) : ℕ) : EReal) := by
  rw [tally_apply, ofBits_zero, zero_add]
  have h2 : ∀ v : S4194304.Idx, (if scatter_S25_S4194304x1_S4194304_n_0_0_1.resultIdx? v
        (broadcastInDim S4194304x1 ![0] bcast_S4194304_S4194304x1_0 (places b)) = some i then (weights (F := Ideal) n v : EReal) else 0)
      = (((fun m : ℕ => if bin m = (i 0).val then 1 else 0) (v 0).val : ℕ) : EReal) := by
    intro v
    rw [weights_eq n v (hn v)]
    have hp := places_toInt b v (by rw [hbin v]; exact hlt _)
    rw [hbin v] at hp
    by_cases h : bin (v 0).val = (i 0).val
    · rw [if_pos ((lands _ _ _).mpr (by rw [hp, h]))]
      simp only [h, if_true, Nat.cast_one]
    · rw [if_neg (fun e => h (by have := (lands _ _ _).mp e; rw [hp] at this; exact_mod_cast this))]
      simp only [h, if_false, Nat.cast_zero]
  rw [Finset.sum_congr rfl fun v _ => h2 v, ← Nat.cast_sum]
  exact congrArg _ (sum_voxels (fun m : ℕ => if bin m = (i 0).val then 1 else 0))

/-- Reducing the columns keeps the rows. -/
theorem reduces_rows : S5x5.Reduces [1] S5 := by decide
/-- Reducing the rows keeps the columns. -/
theorem reduces_cols : S5x5.Reduces [0] S5 := by decide

/-- The index of row `r` and column `q` of the table. -/
def cell (r q : ℕ) : S5x5.Idx :=
  ValueIdx.ix2 (⟨r % 5, Nat.mod_lt _ (by decide)⟩ : Fin 5) (⟨q % 5, Nat.mod_lt _ (by decide)⟩ : Fin 5)

/-- A cell of a row. -/
theorem lift_row (j : S5.Idx) (q : Fin (S5x5.size 1)) : reduces_rows.lift j q = cell (j 0).val q.val := by
  have hj : (j 0).val % 5 = (j 0).val := Nat.mod_eq_of_lt (j 0).isLt
  have hq : q.val % 5 = q.val := Nat.mod_eq_of_lt q.isLt
  funext a
  refine Fin.ext ((Shape.Reduces.lift_val reduces_rows j q a).trans ?_)
  match a with
  | ⟨0, _⟩ => exact hj.symm
  | ⟨1, _⟩ => exact hq.symm

/-- A cell of a column. -/
theorem lift_col (j : S5.Idx) (r : Fin (S5x5.size 0)) : reduces_cols.lift j r = cell r.val (j 0).val := by
  have hj : (j 0).val % 5 = (j 0).val := Nat.mod_eq_of_lt (j 0).isLt
  have hr : r.val % 5 = r.val := Nat.mod_eq_of_lt r.isLt
  funext a
  refine Fin.ext ((Shape.Reduces.lift_val reduces_cols j r a).trans ?_)
  match a with
  | ⟨0, _⟩ => exact hr.symm
  | ⟨1, _⟩ => exact hj.symm

/-- A row's total. -/
theorem sum_row (c : FVec Ideal S5x5 .f32) (j : S5.Idx) :
    (Host.reduceAdd c (constant S_ .f32 0x00000000#32) reducesTo_S5x5_S5_d1 h_S_ j : EReal)
      = ∑ q ∈ Finset.range 5, (c (cell (j 0).val q) : EReal) := by
  have h := Ideal.hostReduceAdd_single reducesTo_S5x5_S5_d1 reduces_rows c (Ideal.ofBits .f32 0x00000000#32) j
  rw [ofBits_zero, zero_add] at h
  refine (show _ = _ from ?_ : (Host.reduceAdd c (constant S_ .f32 0x00000000#32) reducesTo_S5x5_S5_d1 h_S_ j : EReal)
    = Ideal.hostReduceAdd reducesTo_S5x5_S5_d1 c 0 j).trans (h.trans ?_)
  · rw [← ofBits_zero]; rfl
  · rw [Finset.sum_range]
    exact Finset.sum_congr rfl fun q _ => congrArg c (lift_row j q)

/-- A column's total. -/
theorem sum_col (c : FVec Ideal S5x5 .f32) (j : S5.Idx) :
    (Host.reduceAdd c (constant S_ .f32 0x00000000#32) reducesTo_S5x5_S5_d0 h_S_ j : EReal)
      = ∑ r ∈ Finset.range 5, (c (cell r (j 0).val) : EReal) := by
  have h := Ideal.hostReduceAdd_single reducesTo_S5x5_S5_d0 reduces_cols c (Ideal.ofBits .f32 0x00000000#32) j
  rw [ofBits_zero, zero_add] at h
  refine (show _ = _ from ?_ : (Host.reduceAdd c (constant S_ .f32 0x00000000#32) reducesTo_S5x5_S5_d0 h_S_ j : EReal)
    = Ideal.hostReduceAdd reducesTo_S5x5_S5_d0 c 0 j).trans (h.trans ?_)
  · rw [← ofBits_zero]; rfl
  · rw [Finset.sum_range]
    exact Finset.sum_congr rfl fun r _ => congrArg c (lift_col j r)

/-- The table with zeros off its diagonal. -/
def diagOf (c : FVec Ideal S5x5 .f32) : FVec Ideal S5x5 .f32 :=
  select onDiagonal c (broadcastInDim S5x5 ![] bcast_S_S5x5 (constant S_ .f32 0x00000000#32))

/-- The diagonal of the table, the rest of it zero. -/
theorem diag_cell (c : FVec Ideal S5x5 .f32) (r q : ℕ) (hr : r < 5) (hq : q < 5) :
    (diagOf c (cell r q) : EReal)
      = if q = r then (c (cell r q) : EReal) else 0 := by
  have e : onDiagonal (cell r q) = IntOp.cmpi .eq (BitVec.ofNat 32 (r % 5)) (BitVec.ofNat 32 (q % 5)) := rfl
  show (Scalar.select (onDiagonal (cell r q)) (c (cell r q)) (Ideal.ofBits .f32 0x00000000#32) : EReal) = _
  rw [e, ofBits_zero, select_eq, Nat.mod_eq_of_lt hr, Nat.mod_eq_of_lt hq]
  refine if_congr ⟨fun h => ?_, fun h => by rw [h]⟩ rfl rfl
  have e' := congrArg BitVec.toNat h
  simp only [BitVec.toNat_ofNat] at e'
  omega

/-- The reference's scores: result `k` is the score of class `k`. -/
theorem scoresOf_apply (c : FVec Ideal S5x5 .f32) (bin : ℕ → ℕ) (hlt : ∀ v, bin v < 25)
    (hc : ∀ r q, r < 5 → q < 5 → (c (cell r q) : EReal) = ((tallyOf bin 4194304 (fun b => b = 5 * r + q) : ℕ) : EReal)) (j : S5.Idx) :
    (scoresOf c j : EReal) = scoreOf bin (j 0).val := by
  have hj : (j 0).val < 5 := (j 0).isLt
  have hrow : (∑ q ∈ Finset.range 5, (c (cell (j 0).val q) : EReal))
      = ((tallyOf bin 4194304 (fun b => b / 5 = (j 0).val) : ℕ) : EReal) := by
    rw [Finset.sum_congr rfl fun q hq => hc (j 0).val q hj (Finset.mem_range.mp hq), ← Nat.cast_sum]
    refine congrArg _ (sum_tallyOf bin 4194304 5 (fun q => 5 * (j 0).val + q) _ fun v => ?_)
    simp only [Finset.sum_range_succ, Finset.sum_range_zero]
    split_ifs <;> omega
  have hcol : (∑ r ∈ Finset.range 5, (c (cell r (j 0).val) : EReal))
      = ((tallyOf bin 4194304 (fun b => b % 5 = (j 0).val) : ℕ) : EReal) := by
    rw [Finset.sum_congr rfl fun r hr => hc r (j 0).val (Finset.mem_range.mp hr) hj, ← Nat.cast_sum]
    refine congrArg _ (sum_tallyOf bin 4194304 5 (fun r => 5 * r + (j 0).val) _ fun v => ?_)
    have := hlt v
    simp only [Finset.sum_range_succ, Finset.sum_range_zero]
    split_ifs <;> omega
  have hdiag : (∑ q ∈ Finset.range 5,
      (diagOf c (cell (j 0).val q) : EReal))
      = ((tallyOf bin 4194304 (fun b => b = 6 * (j 0).val) : ℕ) : EReal) := by
    rw [Finset.sum_congr rfl fun q hq => diag_cell c (j 0).val q hj (Finset.mem_range.mp hq), Finset.sum_ite_eq',
      if_pos (Finset.mem_range.mpr hj), hc _ _ hj hj]
    have e : 5 * (j 0).val + (j 0).val = 6 * (j 0).val := by omega
    rw [e]
  have h : (scoresOf c j : EReal) = Ideal.div
      ((Host.reduceAdd (diagOf c) (constant S_ .f32 0x00000000#32) reducesTo_S5x5_S5_d1 h_S_ j : EReal) * Ideal.ofBits .f32 0x40000000#32)
      ((Host.reduceAdd c (constant S_ .f32 0x00000000#32) reducesTo_S5x5_S5_d1 h_S_ j : EReal)
        + (Host.reduceAdd c (constant S_ .f32 0x00000000#32) reducesTo_S5x5_S5_d0 h_S_ j : EReal)) := rfl
  rw [h, sum_row, sum_row, sum_col, hrow, hcol, hdiag, mul_comm]
  rfl

/-- The index of bin `n`. -/
def bin25 (n : ℕ) : S25.Idx := fun a => match a with
  | ⟨0, _⟩ => (⟨n % 25, Nat.mod_lt _ (by decide)⟩ : Fin 25)

/-- The reference's results from the bins of the voxels. -/
theorem out_apply (x : FVec Ideal S2x5x128x128x128 .f32) (t : IVec S2x128x128x128 32) (bin : ℕ → ℕ) (hlt : ∀ v, bin v < 25)
    (ht : ∀ v, (t v).toNat < 5)
    (hbin : ∀ v : S4194304.Idx, (shapeCast S4194304 (bins (best x) t) shapeCasts_S2x128x128x128_S4194304 v).toNat = bin (v 0).val)
    (j : S5.Idx) : (out (F := Ideal) x t j : EReal) = scoreOf bin (j 0).val := by
  unfold out
  refine scoresOf_apply _ bin hlt (fun r q hr hq => ?_) j
  have hi : 5 * r + q < 25 := by omega
  have e : shapeCast S5x5 (tally (F := Ideal) (bins (best x) t) (inside t)) shapeCasts_S25_S5x5 (cell r q)
      = tally (F := Ideal) (bins (best x) t) (inside t) (bin25 (5 * r + q)) := by
    refine shapeCast_apply _ shapeCasts_S25_S5x5 (cell r q) _ ?_
    rw [Shape.rowMajor_val_one, Shape.rowMajor_val_two]
    show (5 * r + q) % 25 = r % 5 * 5 + q % 5
    omega
  rw [e, tally_count (bins (best x) t) (inside t) bin hlt hbin (fun v => inside_one t _ (ht _))]
  show ((tallyOf bin 4194304 (fun c => c = (5 * r + q) % 25) : ℕ) : EReal) = _
  rw [Nat.mod_eq_of_lt hi]

end Cert.Proof.Reference

end
-- ==== Proof.Ideal.Count.lean ====
/-
  The tiles' counters, over the idealized floats, as counts of voxels.
-/
module

public import proofs.«01_k».proof.Proof.Ideal.Values
public import proofs.«01_k».proof.Proof.Sums
public import Idealize.ShloMosaic.Lib.IdealHost

@[expose] public section

noncomputable section

namespace Cert.Proof.KernelIdeal

open Cert.KernelIdeal Cert.KernelIdeal.Gen
open Idealize.ShloMosaic

/-- Where the score of class `c` of voxel `v` lies in the flattened prediction. -/
def plane (c v : ℕ) : ℕ := (v / 2097152 * 5 + c) * 2097152 + v % 2097152

/-- The class predicted for voxel `v`. -/
def predAt (mp : Vec Ideal S20971520 .f32) (v : ℕ) : BitVec 32 :=
  amax5 (F := Ideal) (mp (ixP (plane 0 v))) (mp (ixP (plane 1 v))) (mp (ixP (plane 2 v))) (mp (ixP (plane 3 v)))
    (mp (ixP (plane 4 v)))

/-- The bin of voxel `v`: five times its label plus its predicted class. -/
def binAt (mp : Vec Ideal S20971520 .f32) (mt : Vec Ideal S4194304 .i32) (v : ℕ) : ℕ :=
  (mt (ixT v) : BitVec 32).toNat * 5 + (predAt mp v).toNat

/-- There are 25 bins. -/
theorem binAt_lt (mp : Vec Ideal S20971520 .f32) (mt : Vec Ideal S4194304 .i32) (hl : LabelsOk mt) (v : ℕ) :
    binAt mp mt v < 25 := by
  have h1 : (mt (ixT v) : BitVec 32).toNat < 5 := hl _
  have h2 : (predAt mp v).toNat < 5 := amax5_lt _ _ _ _ _
  unfold binAt
  omega

/-- The index a lane names, from its voxel's bin. -/
theorem idxVec_bin (mp : Vec Ideal S20971520 .f32) (mt : Vec Ideal S4194304 .i32) (hl : LabelsOk mt) (w n : ℕ)
    (hn : n < 8192) (l : S16.Idx) :
    (idxVec mp mt w n l).toNat = binAt mp mt (w * 131072 + 16 * n + (l 0).val) * 16 + (l 0).val := by
  have h3 : (l 0).val < 16 := (l 0).isLt
  have hp : ∀ c, pBase w c + 16 * n + (l 0).val = plane c (w * 131072 + 16 * n + (l 0).val) := by
    intro c; unfold pBase plane; omega
  rw [idxVec_toNat mp mt hl]
  unfold binAt predAt predLane tLane pLane
  simp only [hp]

/-- Ones added at a list of places, one after another: each place ends with how often it was named on top. -/
theorem foldl_ones {ι J : Type} (g : J → EReal) (P : ι → J → Prop) [∀ k j, Decidable (P k j)] (at_ : ι → J)
    (hP : ∀ k j, P k j → j = at_ k) (L : List ι) (j : J) :
    (L.foldl (fun (g : J → EReal) k => fun j => if P k j then g (at_ k) + 1 else g j) g) j
      = g j + (((L.map fun k => if P k j then 1 else 0).sum : ℕ) : EReal) := by
  induction L generalizing g with
  | nil => simp
  | cons k L ih =>
    rw [List.foldl_cons, ih]
    by_cases h : P k j
    · have := hP k j h
      simp only [h, if_true, ← this, List.map_cons, List.sum_cons, Nat.cast_add, Nat.cast_one, add_assoc]
    · simp only [h, if_false, List.map_cons, List.sum_cons, zero_add]

/-- One step adds to each counter how many lanes name it. -/
theorem step_count (acc : Vec Ideal S400 .f32) (idx : IVec S16 32) (h : k0_chk1 idx) (q : S400.Idx) :
    storeIdx acc ![idx] (k0_pay2 (F := Ideal)) (fun _ => 1#1) true (k0_idx1_inb idx h) q
      = (acc q : EReal) + ((∑ l ∈ Finset.range 16, if (idx (ix S16 (by decide) l)).toNat = (q 0).val then 1 else 0 : ℕ) : EReal) := by
  have hone : ∀ x, (k0_pay2 (F := Ideal) x : EReal) = 1 := fun x => Ideal.ofBits_one_f32
  have hfold := foldl_ones acc (fun (k : Fin (![16] 0)) (j : S400.Idx) => ∀ a, (j a).val = (idxAt ![idx] (k0_idx1_inb idx h) (Shape.ofLane (d := ![16]) k) a).val)
    (fun k => idxAt ![idx] (k0_idx1_inb idx h) (Shape.ofLane (d := ![16]) k))
    (fun k j hj => funext fun a => Fin.ext (hj a)) (List.finRange (![16] 0)) q
  have hsum : ((List.finRange (![16] 0)).map fun (k : Fin (![16] 0)) =>
      if ∀ a, (q a).val = (idxAt ![idx] (k0_idx1_inb idx h) (Shape.ofLane (d := ![16]) k) a).val then 1 else 0).sum
      = ∑ l ∈ Finset.range 16, if (idx (ix S16 (by decide) l)).toNat = (q 0).val then 1 else 0 := by
    rw [← List.ofFn_eq_map, List.sum_ofFn, Finset.sum_range]
    refine Finset.sum_congr rfl fun k _ => ?_
    have e : (ix S16 (by decide) k.val : S16.Idx) = Shape.ofLane (d := ![16]) k := by
      funext a
      have ha : a = 0 := Subsingleton.elim _ _
      subst ha
      exact Fin.ext (Nat.mod_eq_of_lt k.isLt)
    rw [e]
    refine if_congr ⟨fun hq => (hq 0).symm, fun hq a => ?_⟩ rfl rfl
    have ha : a = 0 := Subsingleton.elim _ _
    subst ha
    exact hq.symm
  rw [hsum] at hfold
  rw [← hfold]
  unfold storeIdx
  have hfun : ∀ (g g' : S400.Idx → EReal) (f f' : (S400.Idx → EReal) → Fin (![16] 0) → S400.Idx → EReal), g = g' → f = f' →
      (List.finRange (![16] 0)).foldl f g q = (List.finRange (![16] 0)).foldl f' g' q := by
    intro g g' f f' h1 h2; rw [h1, h2]
  refine hfun _ _ _ _ rfl ?_
  funext g k j
  simp only [hone, if_true, Elt.idxAdd_f32, Ideal.idxAddf_def]
  rfl

/-- A tile's counters after `n` steps are counts. -/
theorem accAt_eq (mp : Vec Ideal S20971520 .f32) (mt : Vec Ideal S4194304 .i32) (hl : LabelsOk mt) (w n : ℕ)
    (hn : n ≤ 8192) (q : S400.Idx) :
    (accAt mp mt w n q : EReal) = ((hits (binAt mp mt) w n (q 0).val : ℕ) : EReal) := by
  induction n with
  | zero =>
    show Ideal.ofBits .f32 0x00000000#32 = _
    simp [hits, Ideal.ofBits, Ideal.ieee]
  | succ n ih =>
    rw [accAt_succ mp mt w n (chk_idxVec mp mt hl w n), step_count _ _ (chk_idxVec mp mt hl w n), ih (by omega)]
    rw [hits_succ, Nat.cast_add]
    refine congrArg (fun x : ℕ => ((hits (binAt mp mt) w n (q 0).val : ℕ) : EReal) + (x : EReal)) ?_
    refine Finset.sum_congr rfl fun l h => ?_
    have hl16 : l < 16 := Finset.mem_range.mp h
    have e0 : ((ix S16 (by decide) l : S16.Idx) 0).val = l := Nat.mod_eq_of_lt hl16
    rw [idxVec_bin mp mt hl w n (by omega), e0]

end Cert.Proof.KernelIdeal

end
-- ==== Proof.Ideal.Score.lean ====
/-
  The finishing kernel over the idealized floats: its lanes 0 to 4 hold the classes' scores, from masked totals of the
  counters.
-/
module

public import proofs.«01_k».proof.Proof.Ideal.Main
public import proofs.«01_k».proof.Proof.Ideal.Count
public import Idealize.ShloMosaic.PureOps.Ideal.Laws
public import Idealize.ShloMosaic.Lib.ValueIdxCore

@[expose] public section

noncomputable section

namespace Cert.Proof.KernelIdeal

open Cert.KernelIdeal Cert.KernelIdeal.Gen
open Idealize.ShloMosaic

/-- The total of the counters whose mark `u` is `k`. -/
def total (u : IVec S32x400 32) (k : BitVec 32) (v : FVec Ideal S32x400 .f32) : Ideal .f32 :=
  extractAt ![0, 0, 0] (shapeCast S1x1x1 (multiReduction .add [1, 2] S1 (shapeCast S1x32x400
    (select (cmpi .eq u (broadcast S32x400 k)) v (k1_pay9 (F := Ideal))) shapeCasts_S32x400_S1x32x400) 0x00000000#32
    reduces_S1x32x400_S1 (.inl rfl) rfl) shapeCasts_S1_S1x1x1) inpos_S1x1x1_p0_0_0

/-- Each counter's bin. -/
def binMark : IVec S32x400 32 := k1_pay3
/-- Each counter's label. -/
def labelMark : IVec S32x400 32 := k1_pay7 k1_pay4 k1_pay5 k1_pay6 0#32
/-- Each counter's predicted class. -/
def classMark : IVec S32x400 32 := k1_pay8 k1_pay3 k1_pay4 k1_pay5 k1_pay6 0#32

/-- The score of a class: twice its matches over the sum of its label count and its prediction count. -/
def dice (v : FVec Ideal S32x400 .f32) (b k : BitVec 32) : Ideal .f32 :=
  Scalar.divf (Scalar.mulf (Scalar.ofBits .f32 0x40000000#32) (total binMark b v))
    (Scalar.addf (total labelMark k v) (total classMark k v))

/-- A row with `d` added at lane `k`. -/
def withLane (acc : FVec Ideal S1x128 .f32) (k : BitVec 32) (d : Ideal .f32) : FVec Ideal S1x128 .f32 :=
  addf acc (select (cmpi .eq (iota .tc S1x128 32 [1] iota_S1x128_d1_w32) (broadcast S1x128 k)) (broadcast S1x128 d)
    (broadcast S1x128 (Scalar.ofBits .f32 0x00000000#32)))

/-- The finishing kernel's result: the five scores added at their lanes one after another. -/
theorem finish_eq (x : Vec Ideal S32x400 .f32) :
    finish x = withLane (withLane (withLane (withLane (withLane (broadcast S1x128 (Scalar.ofBits .f32 0x00000000#32))
      0#32 (dice (k1_pay2 x) 0#32 0#32)) 1#32 (dice (k1_pay2 x) 6#32 1#32)) 2#32 (dice (k1_pay2 x) 12#32 2#32))
      3#32 (dice (k1_pay2 x) 18#32 3#32)) 4#32 (dice (k1_pay2 x) 24#32 4#32) := rfl

/-- The zero word is zero. -/
theorem ofBits_zero : Ideal.ofBits .f32 0x00000000#32 = 0 := by simp [Ideal.ofBits, Ideal.ieee]

/-- The index of counter `q` of the first tile. -/
def col (q : Fin 400) : S32x400.Idx := fun a => match a with | ⟨0, _⟩ => (0 : Fin 32) | ⟨1, _⟩ => q

/-- The bin depends on the counter alone. -/
theorem binMark_col (i : S32x400.Idx) : binMark i = binMark (col (i 1)) := rfl
/-- The label depends on the counter alone. -/
theorem labelMark_col (i : S32x400.Idx) : labelMark i = labelMark (col (i 1)) := rfl
/-- The predicted class depends on the counter alone. -/
theorem classMark_col (i : S32x400.Idx) : classMark i = classMark (col (i 1)) := rfl

/-- The marks' values on the 400 counters. -/
theorem marks (q : Fin 400) : binMark (col q) = BitVec.ofNat 32 (q.val / 16)
    ∧ labelMark (col q) = BitVec.ofNat 32 (q.val / 16 / 5) ∧ classMark (col q) = BitVec.ofNat 32 (q.val / 16 % 5) := by
  revert q; decide +kernel

/-- A masked total of counts: the sum of the counts whose bin is of the mark's kind. -/
theorem total_eq (u : IVec S32x400 32) (g : ℕ → ℕ) (hg : ∀ n, g n ≤ n)
    (hu : ∀ i : S32x400.Idx, u i = BitVec.ofNat 32 (g ((i 1).val / 16))) (k : ℕ) (hk : k < 25)
    (v : FVec Ideal S32x400 .f32) (h : ℕ → ℕ → ℕ) (hv : ∀ i : S32x400.Idx, (v i : EReal) = ((h (i 0).val (i 1).val : ℕ) : EReal)) :
    (total u (BitVec.ofNat 32 k) v : EReal)
      = ((∑ w ∈ Finset.range 32, ∑ q ∈ Finset.range 400, if g (q / 16) = k then h w q else 0 : ℕ) : EReal) := by
  have h1 : (total u (BitVec.ofNat 32 k) v : EReal) = ∑ i : S1x32x400.Idx, (shapeCast S1x32x400
      (select (cmpi .eq u (broadcast S32x400 (BitVec.ofNat 32 k))) v (k1_pay9 (F := Ideal))) shapeCasts_S32x400_S1x32x400 i : EReal) := by
    unfold total extractAt shapeCast
    exact Ideal.multiReduction_add_total _ _ reduces_S1x32x400_S1 (by decide) (.inl rfl) rfl _
  have h2 : ∀ i : S32x400.Idx, (select (cmpi .eq u (broadcast S32x400 (BitVec.ofNat 32 k))) v (k1_pay9 (F := Ideal)) i : EReal)
      = (((if g ((i 1).val / 16) = k then h (i 0).val (i 1).val else 0 : ℕ)) : EReal) := by
    intro i
    have hi : (i 1).val < 400 := (i 1).isLt
    have hgi := hg ((i 1).val / 16)
    show (Scalar.select (IntOp.cmpi .eq (u i) (BitVec.ofNat 32 k)) (v i) (Ideal.ofBits .f32 0x00000000#32) : EReal) = _
    rw [hu i, hv i, ofBits_zero, select_eq]
    by_cases hb : g ((i 1).val / 16) = k
    · rw [hb, if_pos rfl]
      rw [if_pos rfl]
    · have hne : BitVec.ofNat 32 (g ((i 1).val / 16)) ≠ BitVec.ofNat 32 k := by
        intro e
        have e' := congrArg BitVec.toNat e
        simp only [BitVec.toNat_ofNat] at e'
        omega
      rw [if_neg hb, if_neg hne, Nat.cast_zero]
  rw [h1]
  unfold shapeCast
  rw [Equiv.sum_comp (Shape.reshapeEquiv shapeCasts_S32x400_S1x32x400)
    (fun i : S32x400.Idx => (select (cmpi .eq u (broadcast S32x400 (BitVec.ofNat 32 k))) v (k1_pay9 (F := Ideal)) i : EReal)),
    Finset.sum_congr rfl fun i _ => h2 i, ← Nat.cast_sum]
  refine congrArg _ ?_
  rw [ValueIdx.sum_idx2, Finset.sum_range]
  refine Finset.sum_congr rfl fun w _ => ?_
  rw [Finset.sum_range]

/-- A lane of a row with a score added: the score on its own lane, nothing elsewhere. -/
theorem withLane_apply (acc : FVec Ideal S1x128 .f32) (k : ℕ) (hk : k < 128) (d : Ideal .f32) (j : S1x128.Idx) :
    (withLane acc (BitVec.ofNat 32 k) d j : EReal) = (acc j : EReal) + if (j 1).val = k then (d : EReal) else 0 := by
  have hj : (j 1).val < 128 := (j 1).isLt
  show (acc j : EReal) + (Scalar.select (IntOp.cmpi .eq (BitVec.ofNat 32 (0 * 128 + (j 1).val)) (BitVec.ofNat 32 k)) d
    (Ideal.ofBits .f32 0x00000000#32) : EReal) = _
  rw [ofBits_zero, Nat.zero_mul, Nat.zero_add, select_eq]
  by_cases hb : (j 1).val = k
  · rw [hb, if_pos rfl]
    rw [if_pos rfl]
  · have hne : BitVec.ofNat 32 (j 1).val ≠ BitVec.ofNat 32 k := by
      intro e
      have e' := congrArg BitVec.toNat e
      simp only [BitVec.toNat_ofNat] at e'
      omega
    rw [if_neg hb, if_neg hne]

/-- The counters' rows hold counts. -/
theorem rows_eq (mp : Vec Ideal S20971520 .f32) (mt : Vec Ideal S4194304 .i32) (hl : LabelsOk mt) (i : S32x400.Idx) :
    (k1_pay2 (F := Ideal) (shapeCast S32x400 (counts mp mt) shapeCasts_S12800_S32x400) i : EReal)
      = ((hits (binAt mp mt) (i 0).val 8192 (i 1).val : ℕ) : EReal) := by
  have h0 : (i 0).val < 32 := (i 0).isLt
  have h1 : (i 1).val < 400 := (i 1).isLt
  have hlt : (i 0).val * 400 + (i 1).val < 12800 := by omega
  have e : k1_pay2 (F := Ideal) (shapeCast S32x400 (counts mp mt) shapeCasts_S12800_S32x400) i
      = counts mp mt (ix S12800 (by decide) ((i 0).val * 400 + (i 1).val)) := by
    unfold k1_pay2
    show shapeCast S32x400 (shapeCast S32x400 (counts mp mt) shapeCasts_S12800_S32x400) shapeCasts_S32x400_S32x400 i = _
    rw [shapeCast_apply _ shapeCasts_S32x400_S32x400 i i rfl]
    refine shapeCast_apply _ shapeCasts_S12800_S32x400 i _ ?_
    rw [Shape.rowMajor_val_one, Shape.rowMajor_val_two]
    exact Nat.mod_eq_of_lt hlt
  rw [e]
  unfold counts
  rw [accAt_eq mp mt hl _ _ le_rfl]
  have e1 : ((i 0).val * 400 + (i 1).val) % 12800 / 400 = (i 0).val := by omega
  have e2 : ((i 0).val * 400 + (i 1).val) % 12800 % 400 % 400 = (i 1).val := by omega
  show ((hits (binAt mp mt) (((i 0).val * 400 + (i 1).val) % 12800 / 400) 8192
    (((i 0).val * 400 + (i 1).val) % 12800 % 400 % 400) : ℕ) : EReal) = _
  rw [e1, e2]

/-- The score the kernel computes for class `k`. -/
theorem dice_eq (mp : Vec Ideal S20971520 .f32) (mt : Vec Ideal S4194304 .i32) (hl : LabelsOk mt) (k : ℕ) (hk : k < 5) :
    (dice (k1_pay2 (shapeCast S32x400 (counts mp mt) shapeCasts_S12800_S32x400)) (BitVec.ofNat 32 (6 * k)) (BitVec.ofNat 32 k) : EReal)
      = scoreOf (binAt mp mt) k := by
  have hb := binAt_lt mp mt hl
  have hv := rows_eq mp mt hl
  have t1 := total_eq binMark (fun n => n) (fun n => le_rfl) (fun i => (binMark_col i).trans (marks (i 1)).1) (6 * k) (by omega) _
    (fun w q => hits (binAt mp mt) w 8192 q) hv
  have t2 := total_eq labelMark (fun n => n / 5) (fun n => Nat.div_le_self n 5) (fun i => (labelMark_col i).trans (marks (i 1)).2.1) k
    (by omega) _ (fun w q => hits (binAt mp mt) w 8192 q) hv
  have t3 := total_eq classMark (fun n => n % 5) (fun n => Nat.mod_le n 5) (fun i => (classMark_col i).trans (marks (i 1)).2.2) k
    (by omega) _ (fun w q => hits (binAt mp mt) w 8192 q) hv
  rw [sum_hits (binAt mp mt) hb (fun b => b = 6 * k)] at t1
  rw [sum_hits (binAt mp mt) hb (fun b => b / 5 = k)] at t2
  rw [sum_hits (binAt mp mt) hb (fun b => b % 5 = k)] at t3
  unfold scoreOf
  rw [← t1, ← t2, ← t3]
  rfl

/-- The kernel's five results: result `k` is the score of class `k`. -/
theorem scores_apply (m : (ℓ : Loc nD τ sig) → Buf (Elt Ideal) ℓ) (d : Dev nD) (hl : LabelsOk (targetRow m d)) (j : S5.Idx) :
    (scores m d j : EReal) = scoreOf (binAt (predRow m d) (targetRow m d)) (j 0).val := by
  have hj : (j 0).val < 5 := (j 0).isLt
  have e : scores m d j = finish (countRows m d) (fun a => match a with
      | ⟨0, _⟩ => (0 : Fin 1) | ⟨1, _⟩ => (⟨(j 0).val, by omega⟩ : Fin 128)) := by
    unfold scores
    rw [shapeCast_apply _ shapeCasts_S1x5_S5 j (fun a => match a with | ⟨0, _⟩ => (0 : Fin 1) | ⟨1, _⟩ => j 0)
      (by rw [Shape.rowMajor_val_one, Shape.rowMajor_val_two]; simp)]
    refine congrArg (finish (countRows m d)) (funext fun a => Fin.ext ?_)
    match a with
    | ⟨0, _⟩ => rfl
    | ⟨1, _⟩ => exact Nat.zero_add _
  have hd := fun k hk => dice_eq (predRow m d) (targetRow m d) hl k hk
  rw [e, finish_eq, withLane_apply _ 4 (by decide), withLane_apply _ 3 (by decide), withLane_apply _ 2 (by decide),
    withLane_apply _ 1 (by decide), withLane_apply _ 0 (by decide)]
  have h0 : ∀ x : S1x128.Idx, (broadcast S1x128 (Scalar.ofBits (F := Ideal) .f32 0x00000000#32) x : EReal) = 0 := fun _ => ofBits_zero
  rw [h0]
  show (0 : EReal) + (if (j 0).val = 0 then _ else 0) + (if (j 0).val = 1 then _ else 0) + (if (j 0).val = 2 then _ else 0)
    + (if (j 0).val = 3 then _ else 0) + (if (j 0).val = 4 then _ else 0) = _
  clear e
  generalize (j 0).val = k at hj ⊢
  match k, hj with
  | 0, _ => simp; exact hd 0 (by decide)
  | 1, _ => simp; exact hd 1 (by decide)
  | 2, _ => simp; exact hd 2 (by decide)
  | 3, _ => simp; exact hd 3 (by decide)
  | 4, _ => simp; exact hd 4 (by decide)

end Cert.Proof.KernelIdeal

end
-- ==== Proof.Equal.lean ====
/-
  The two programs' results over the idealized floats: equal, since both are the classes' scores from the same bins.
-/
module

public import proofs.«01_k».proof.Proof.Best
public import proofs.«01_k».proof.Proof.Tally
public import proofs.«01_k».proof.Proof.Ideal.Score

@[expose] public section

noncomputable section

namespace Cert.Proof

open Idealize.ShloMosaic
open Cert.KernelIdeal Cert.KernelIdeal.Gen

/-- The prediction as one row. -/
abbrev rowOf (x : FVec Ideal S2x5x128x128x128 .f32) : Vec Ideal S20971520 .f32 :=
  shapeCast S20971520 x shapeCasts_S2x5x128x128x128_S20971520
/-- The target as one row. -/
abbrev labelsOf (t : IVec S2x128x128x128 32) : Vec Ideal S4194304 .i32 :=
  shapeCast S4194304 t shapeCasts_S2x128x128x128_S4194304

/-- A score in the prediction's row. -/
theorem row_plane (x : FVec Ideal S2x5x128x128x128 .f32) (j : S2x128x128x128.Idx) (v c : ℕ) (hc : c < 5)
    (hv : (S2x128x128x128.rowMajor j).val = v) :
    rowOf x (KernelIdeal.ixP (KernelIdeal.plane c v)) = x (Reference.classIdx j c) := by
  have h0 : (j 0).val < 2 := (j 0).isLt
  have h1 : (j 1).val < 128 := (j 1).isLt
  have h2 : (j 2).val < 128 := (j 2).isLt
  have h3 : (j 3).val < 128 := (j 3).isLt
  have hc5 : c % 5 = c := Nat.mod_eq_of_lt hc
  rw [Shape.rowMajor_val_four] at hv
  have hv' : (((j 0).val * 128 + (j 1).val) * 128 + (j 2).val) * 128 + (j 3).val = v := hv
  refine shapeCast_apply x shapeCasts_S2x5x128x128x128_S20971520 _ (Reference.classIdx j c) ?_
  rw [Shape.rowMajor_val_five, Shape.rowMajor_val_one]
  show ((((j 0).val * 5 + c % 5) * 128 + (j 1).val) * 128 + (j 2).val) * 128 + (j 3).val = KernelIdeal.plane c v % 20971520
  unfold KernelIdeal.plane
  omega

/-- Both programs give every voxel the same bin. -/
theorem bins_eq (x : FVec Ideal S2x5x128x128x128 .f32) (t : IVec S2x128x128x128 32) (ht : ∀ j, (t j).toNat < 5)
    (v : S4194304.Idx) :
    (shapeCast S4194304 (Reference.bins (Reference.best x) t) shapeCasts_S2x128x128x128_S4194304 v).toNat
      = KernelIdeal.binAt (rowOf x) (labelsOf t) (v 0).val := by
  have hj : (S2x128x128x128.rowMajor (Shape.reshapeEquiv shapeCasts_S2x128x128x128_S4194304 v)).val = (v 0).val := by
    rw [Shape.rowMajor_reshapeEquiv, Shape.rowMajor_val_one]
  have hv : KernelIdeal.ixT (v 0).val = v := by
    funext a
    have ha : a = 0 := Subsingleton.elim _ _
    subst ha
    exact Fin.ext (Nat.mod_eq_of_lt (v 0).isLt)
  have hbest : Reference.best x (Shape.reshapeEquiv shapeCasts_S2x128x128x128_S4194304 v) = KernelIdeal.predAt (rowOf x) (v 0).val := by
    rw [Reference.best_eq_amax5]
    unfold KernelIdeal.predAt
    rw [row_plane x _ _ 0 (by decide) hj, row_plane x _ _ 1 (by decide) hj, row_plane x _ _ 2 (by decide) hj,
      row_plane x _ _ 3 (by decide) hj, row_plane x _ _ 4 (by decide) hj]
  unfold KernelIdeal.binAt
  rw [hv, ← hbest]
  unfold labelsOf shapeCast
  refine Reference.bins_toNat _ t _ (ht _) ?_
  rw [hbest]
  exact KernelIdeal.amax5_lt _ _ _ _ _

/-- The kernel's results on labels in range are the reference's. -/
theorem scores_eq_out (m : (ℓ : Loc nD τ sig) → Buf (Elt Ideal) ℓ) (d : Dev nD)
    (hl : KernelIdeal.LabelsOk (KernelIdeal.targetRow (F := Ideal) m d))
    (ht : ∀ j, ((m ((SparseCore.T d).loc main_arg1) : IVec S2x128x128x128 32) j).toNat < 5) :
    KernelIdeal.scores m d
      = Reference.out (F := Ideal) (m ((SparseCore.T d).loc main_arg0) : FVec Ideal S2x5x128x128x128 .f32)
          (m ((SparseCore.T d).loc main_arg1) : IVec S2x128x128x128 32) := by
  funext j
  refine (KernelIdeal.scores_apply m d hl j).trans (Reference.out_apply _ _ _ (KernelIdeal.binAt_lt _ _ hl) ht (fun v => ?_) j).symm
  exact bins_eq _ _ ht v

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Main
public import proofs.«01_k».proof.Proof.Ideal.Main
public import proofs.«01_k».proof.Proof.Reference
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The kernel as printed, from labels in range: every run ends with its arguments as they were and every semaphore
    zero. -/
theorem frame_p : Cert.quiescent_Kernel := fun m ρ hpre =>
  (θ_run Cert.Kernel.defs _ _).mono (fun _ h => ⟨fun c => ⟨(h.1 c).1, (h.1 c).2.1⟩, h.2⟩)
    (Kernel.run_main (F := Bits) m ρ (Kernel.inRange_of_pre m hpre))

/-- The same of the kernel at the ideal instance. -/
theorem frame_pi : Cert.quiescent_KernelIdeal := fun m ρ hpre =>
  (θ_run Cert.KernelIdeal.defs _ _).mono (fun _ h => ⟨fun c => ⟨(h.1 c).1, (h.1 c).2.1⟩, h.2⟩)
    (KernelIdeal.run_main (F := Ideal) m ρ (KernelIdeal.inRange_of_pre m hpre))

/-- Every run of the reference ends with its arguments as they were and every semaphore zero. -/
theorem frame_ri : Cert.quiescent_ReferenceIdeal := fun m ρ _ =>
  (θ_run Cert.ReferenceIdeal.defs _ _).mono (fun _ h => ⟨fun c => (h.1 c).2, h.2⟩)
    (Reference.run_main (F := Ideal) m ρ)
/-- From labels in range and from equal arguments, the kernel and the reference at the ideal instance end with the same
    five scores, and with their arguments as they were. -/
theorem algebraic : Cert.algebraic_KernelIdeal_ReferenceIdeal := fun m g m' g' hpre hargs =>
  have hl := KernelIdeal.inRange_of_pre m hpre
  ⟨fun c => KernelIdeal.scores m c,
    (θ_run Cert.KernelIdeal.defs _ _).mono (fun _ h c => ⟨(h.1 c).2.2, (h.1 c).1, (h.1 c).2.1⟩)
      (KernelIdeal.run_main (F := Ideal) m g hl),
    (θ_run Cert.ReferenceIdeal.defs _ _).mono
      (fun _ h c => ⟨((h.1 c).1.trans (congrArg₂ (Reference.out (F := Ideal)) (hargs c).1 (hargs c).2)).trans
        (scores_eq_out m c (hl c) (labels_of_pre _ _ (hpre c))).symm, (h.1 c).2.1, (h.1 c).2.2⟩)
      (Reference.run_main (F := Ideal) m' g')⟩

/-- All the claims together. -/
theorem claim : Cert.Claim :=
  ⟨Cert.Kernel.Gen.facts, Cert.KernelIdeal.Gen.facts, Cert.ReferenceIdeal.Gen.facts, Cert.Pre_in_range.Gen.facts,
    frame_p, frame_pi, frame_ri, trivial, algebraic⟩

end Cert.Proof

end
